-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_clusters [hPre_clusters : Cert.Pre_clusters.Facts] (m : (ℓ : Loc Cert.KernelIdeal.nD Cert.KernelIdeal.τ Cert.KernelIdeal.sig) → Buf (Elt Ideal) ℓ) : Prop :=
  ∀ c : Dev Cert.KernelIdeal.nD,
    (Cert.Pre_clusters.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_clusters [hPre_clusters : Cert.Pre_clusters.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_clusters.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_clusters [hKernelIdeal : Cert.KernelIdeal.Facts] [hPre_clusters : Cert.Pre_clusters.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_clusters m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_clusters [hReferenceIdeal : Cert.ReferenceIdeal.Facts] [hPre_clusters : Cert.Pre_clusters.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_clusters m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_clusters [hKernelIdeal : Cert.KernelIdeal.Facts] [hReferenceIdeal : Cert.ReferenceIdeal.Facts] [hPre_clusters : Cert.Pre_clusters.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_clusters m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_clusters : Cert.Pre_clusters.Facts),
    quiescent_Kernel (hKernel := hKernel)
    ∧ quiescent_KernelIdeal (hKernelIdeal := hKernelIdeal)
    ∧ quiescent_KernelIdeal_pre_clusters (hKernelIdeal := hKernelIdeal) (hPre_clusters := hPre_clusters)
    ∧ quiescent_ReferenceIdeal (hReferenceIdeal := hReferenceIdeal)
    ∧ quiescent_ReferenceIdeal_pre_clusters (hReferenceIdeal := hReferenceIdeal) (hPre_clusters := hPre_clusters)
    ∧ preserves_Kernel_KernelIdeal
    ∧ algebraic_KernelIdeal_ReferenceIdeal_pre_clusters (hKernelIdeal := hKernelIdeal) (hReferenceIdeal := hReferenceIdeal) (hPre_clusters := hPre_clusters)
-- ==== Pre_clusters.lean ====
abbrev S512x128 : Shape := ⟨2, ![512, 128]⟩
abbrev S8192 : Shape := ⟨1, ![8192]⟩
abbrev S65536 : Shape := ⟨1, ![65536]⟩
abbrev S128x128 : Shape := ⟨2, ![128, 128]⟩
abbrev S128 : Shape := ⟨1, ![128]⟩
abbrev S128x65536 : Shape := ⟨2, ![128, 65536]⟩
abbrev S_ : Shape := ⟨0, ![]⟩

class Facts : Prop where
  reducesTo_S8192_S_d0 : S8192.ReducesTo [0] S_
  h_S_ : 0 < S_.numel
  bcast_S_S65536 : S_.BroadcastsInDim S65536 (![] : Fin 0 → Fin S65536.rank)
  reducesTo_S65536_S_d0 : S65536.ReducesTo [0] S_

variable [Facts]

def fn {F : FTy → Type} [FloatOps F] (main_arg0 : FVec F S512x128 .f32) (main_arg1 : IVec S8192 32) (main_arg2 : IVec S65536 32) (main_arg3 : FVec F S128x128 .f32) (main_arg4 : FVec F S128 .f32) (main_arg5 : FVec F S128 .f32) (main_arg6 : FVec F S128 .f32) (main_arg7 : FVec F S128x65536 .f32) (main_arg8 : FVec F S65536 .f32) : IVec S_ 1 :=
  let main_v0 : IVec S8192 32 := iotaInDim S8192 32 0
  let main_v1 : IVec S8192 1 := cmpi .eq main_arg1 main_v0
  let main_c : IVec S_ 1 := constantI S_ 1 1#1
  let main_v2 : IVec S_ 1 := (fun x v => Host.reduce IntOp.andi x v reducesTo_S8192_S_d0 h_S_) main_v1 main_c
  let main_v3 : IVec S65536 32 := iotaInDim S65536 32 0
  let main_c_0 : IVec S_ 32 := constantI S_ 32 8192#32
  let main_v4 : IVec S65536 32 := broadcastInDim S65536 ![] bcast_S_S65536 main_c_0
  let main_v5 : IVec S65536 32 := Host.remsi main_v3 main_v4
  let main_v6 : IVec S65536 1 := cmpi .eq main_arg2 main_v5
  let main_c_1 : IVec S_ 1 := constantI S_ 1 1#1
  let main_v7 : IVec S_ 1 := (fun x v => Host.reduce IntOp.andi x v reducesTo_S65536_S_d0 h_S_) main_v6 main_c_1
  let main_v8 : IVec S_ 1 := andi main_v2 main_v7
  main_v8
-- ==== Kernel.lean ====
abbrev S512x128 : Shape := ⟨2, ![512, 128]⟩
abbrev S8192 : Shape := ⟨1, ![8192]⟩
abbrev S65536 : Shape := ⟨1, ![65536]⟩
abbrev S128x128 : Shape := ⟨2, ![128, 128]⟩
abbrev S128 : Shape := ⟨1, ![128]⟩
abbrev S128x65536 : Shape := ⟨2, ![128, 65536]⟩
abbrev S1x128 : Shape := ⟨2, ![1, 128]⟩
abbrev S8x8192 : Shape := ⟨2, ![8, 8192]⟩
abbrev S512x65536 : Shape := ⟨2, ![512, 65536]⟩
abbrev S128x2048 : Shape := ⟨2, ![128, 2048]⟩
abbrev S8x2048 : Shape := ⟨2, ![8, 2048]⟩
abbrev S512x2048 : Shape := ⟨2, ![512, 2048]⟩
abbrev S1x2048 : Shape := ⟨2, ![1, 2048]⟩
abbrev S2048 : Shape := ⟨1, ![2048]⟩

abbrev nBuf : Space → Nat
  | .hbm => 15
  | .vmem => 26
  | .smem => 0
  | _ => 0

abbrev bufTy : (tb : Table) → Fin (tcTables nBuf tb) → BufTy
  | .hbm, ⟨0, _⟩ => ⟨S512x128, .f32⟩
  | .hbm, ⟨1, _⟩ => ⟨S8192, .i32⟩
  | .hbm, ⟨2, _⟩ => ⟨S65536, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x65536, .f32⟩
  | .hbm, ⟨8, _⟩ => ⟨S65536, .f32⟩
  | .hbm, ⟨9, _⟩ => ⟨S1x128, .f32⟩
  | .hbm, ⟨10, _⟩ => ⟨S1x128, .f32⟩
  | .hbm, ⟨11, _⟩ => ⟨S1x128, .f32⟩
  | .hbm, ⟨12, _⟩ => ⟨S512x128, .f32⟩
  | .hbm, ⟨13, _⟩ => ⟨S8x8192, .f32⟩
  | .hbm, ⟨14, _⟩ => ⟨S512x65536, .f32⟩
  | .local _ .vmem, ⟨0, _⟩ => ⟨S512x128, .f32⟩
  | .local _ .vmem, ⟨1, _⟩ => ⟨S128x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S512x128, .f32⟩
  | .local _ .vmem, ⟨6, _⟩ => ⟨S512x128, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | .local _ .vmem, ⟨20, _⟩ => ⟨S128x2048, .f32⟩
  | .local _ .vmem, ⟨21, _⟩ => ⟨S8x2048, .f32⟩
  | .local _ .vmem, ⟨22, _⟩ => ⟨S8x2048, .f32⟩
  | .local _ .vmem, ⟨23, _⟩ => ⟨S512x2048, .f32⟩
  | .local _ .vmem, ⟨24, _⟩ => ⟨S512x2048, .f32⟩
  | .local _ .vmem, ⟨25, _⟩ => ⟨S512x2048, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg8_1 : Ref sig .tc := ⟨.vmem, 22, rfl⟩
abbrev cc1_stg9_0 : Ref sig .tc := ⟨.vmem, 23, rfl⟩
abbrev cc1_stg9_1 : Ref sig .tc := ⟨.vmem, 24, rfl⟩
abbrev cc1_scratch0 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20
abbrev cc1_sem8_0 : DmaSem sig := 21
abbrev cc1_sem8_1 : DmaSem sig := 22
abbrev cc1_sem9_0 : DmaSem sig := 23
abbrev cc1_sem9_1 : DmaSem sig := 24

abbrev nD : Nat := 1
abbrev τ : Topo := Topo.v7x

variable {F : FTy → Type} [FloatOps F]

abbrev grid0 : Pipeline.Grid := .none

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨2, ![4, 8], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k1_cond2 (i : grid1.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k1_cond3 (i : grid1.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def k1_cond4 (i : grid1.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_3 : BitVec 32 := 0#32
  let v11 : BitVec 1 := Scalar.cmpi .ne v10 c0_i32_3
  v11

def k1_cond5 (i : grid1.Coords) : BitVec 1 :=
  let arg1 : BitVec 32 := BitVec.ofNat 32 (i 1).val
  let c4_i32 : BitVec 32 := 4#32
  let v12 : BitVec 1 := Scalar.cmpi .eq arg1 c4_i32
  let v13 : BitVec 32 := Scalar.extui v12
  let c0_i32_4 : BitVec 32 := 0#32
  let v14 : BitVec 1 := Scalar.cmpi .ne v13 c0_i32_4
  v14

def k1_cond6 (i : grid1.Coords) : BitVec 1 :=
  let arg1 : BitVec 32 := BitVec.ofNat 32 (i 1).val
  let c5_i32 : BitVec 32 := 5#32
  let v15 : BitVec 1 := Scalar.cmpi .eq arg1 c5_i32
  let v16 : BitVec 32 := Scalar.extui v15
  let c0_i32_5 : BitVec 32 := 0#32
  let v17 : BitVec 1 := Scalar.cmpi .ne v16 c0_i32_5
  v17

def k1_cond7 (i : grid1.Coords) : BitVec 1 :=
  let arg1 : BitVec 32 := BitVec.ofNat 32 (i 1).val
  let c6_i32 : BitVec 32 := 6#32
  let v18 : BitVec 1 := Scalar.cmpi .eq arg1 c6_i32
  let v19 : BitVec 32 := Scalar.extui v18
  let c0_i32_6 : BitVec 32 := 0#32
  let v20 : BitVec 1 := Scalar.cmpi .ne v19 c0_i32_6
  v20

def k1_cond8 (i : grid1.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_7 : BitVec 32 := 0#32
  let v23 : BitVec 1 := Scalar.cmpi .ne v22 c0_i32_7
  v23

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sgt arg1 c1_i32
  let v1 : BitVec 32 := Scalar.extui v0
  let v2 : BitVec 32 := Scalar.addi arg0 v1
  let c3_i32 : BitVec 32 := 3#32
  let v3 : BitVec 32 := Scalar.minsi v2 c3_i32
  let c4_i32 : BitVec 32 := 4#32
  let v4 : BitVec 32 := Scalar.addi c4_i32 v3
  let c0_i32 : BitVec 32 := 0#32
  let c0_i32_0 : BitVec 32 := 0#32
  ![c0_i32.toNat, v4.toNat]

def cc1_transform_2 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .sgt arg1 c2_i32
  let v1 : BitVec 32 := Scalar.extui v0
  let v2 : BitVec 32 := Scalar.addi arg0 v1
  let c3_i32 : BitVec 32 := 3#32
  let v3 : BitVec 32 := Scalar.minsi v2 c3_i32
  let c8_i32 : BitVec 32 := 8#32
  let v4 : BitVec 32 := Scalar.addi c8_i32 v3
  let c0_i32 : BitVec 32 := 0#32
  let c0_i32_0 : BitVec 32 := 0#32
  ![c0_i32.toNat, v4.toNat]

def cc1_transform_3 (i : grid1.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .sgt arg1 c3_i32
  let v1 : BitVec 32 := Scalar.extui v0
  let v2 : BitVec 32 := Scalar.addi arg0 v1
  let c3_i32_0 : BitVec 32 := 3#32
  let v3 : BitVec 32 := Scalar.minsi v2 c3_i32_0
  let c12_i32 : BitVec 32 := 12#32
  let v4 : BitVec 32 := Scalar.addi c12_i32 v3
  let c0_i32 : BitVec 32 := 0#32
  let c0_i32_1 : BitVec 32 := 0#32
  ![c0_i32.toNat, v4.toNat]

def cc1_transform_4 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .sgt arg1 c4_i32
  let v1 : BitVec 32 := Scalar.extui v0
  let v2 : BitVec 32 := Scalar.addi arg0 v1
  let c3_i32 : BitVec 32 := 3#32
  let v3 : BitVec 32 := Scalar.minsi v2 c3_i32
  let c16_i32 : BitVec 32 := 16#32
  let v4 : BitVec 32 := Scalar.addi c16_i32 v3
  let c0_i32 : BitVec 32 := 0#32
  let c0_i32_0 : BitVec 32 := 0#32
  ![c0_i32.toNat, v4.toNat]

def cc1_transform_5 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 1 := Scalar.cmpi .sgt arg1 c5_i32
  let v1 : BitVec 32 := Scalar.extui v0
  let v2 : BitVec 32 := Scalar.addi arg0 v1
  let c3_i32 : BitVec 32 := 3#32
  let v3 : BitVec 32 := Scalar.minsi v2 c3_i32
  let c20_i32 : BitVec 32 := 20#32
  let v4 : BitVec 32 := Scalar.addi c20_i32 v3
  let c0_i32 : BitVec 32 := 0#32
  let c0_i32_0 : BitVec 32 := 0#32
  ![c0_i32.toNat, v4.toNat]

def cc1_transform_6 (i : grid1.Coords) : Fin 2 → Nat :=
  let arg0 : BitVec 32 := BitVec.ofNat 32 (i 0).val
  let arg1 : BitVec 32 := BitVec.ofNat 32 (i 1).val
  let c6_i32 : BitVec 32 := 6#32
  let v0 : BitVec 1 := Scalar.cmpi .sgt arg1 c6_i32
  let v1 : BitVec 32 := Scalar.extui v0
  let v2 : BitVec 32 := Scalar.addi arg0 v1
  let c3_i32 : BitVec 32 := 3#32
  let v3 : BitVec 32 := Scalar.minsi v2 c3_i32
  let c24_i32 : BitVec 32 := 24#32
  let v4 : BitVec 32 := Scalar.addi c24_i32 v3
  let c0_i32 : BitVec 32 := 0#32
  let c0_i32_0 : BitVec 32 := 0#32
  ![c0_i32.toNat, v4.toNat]

def cc1_transform_7 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 1 := Scalar.cmpi .sgt arg1 c7_i32
  let v1 : BitVec 32 := Scalar.extui v0
  let v2 : BitVec 32 := Scalar.addi arg0 v1
  let c3_i32 : BitVec 32 := 3#32
  let v3 : BitVec 32 := Scalar.minsi v2 c3_i32
  let c28_i32 : BitVec 32 := 28#32
  let v4 : BitVec 32 := Scalar.addi c28_i32 v3
  let c0_i32 : BitVec 32 := 0#32
  let c0_i32_0 : BitVec 32 := 0#32
  ![c0_i32.toNat, v4.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  ![c0_i32.toNat, v1.toNat]

abbrev stage1_0 : Fin 1 → Memref sig .tc .vmem S512x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S128x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S128x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S128x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S128x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S128x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S128x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S128x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S8x2048 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S512x2048 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]
-- ==== ReferenceIdeal.lean ====
abbrev S512x128 : Shape := ⟨2, ![512, 128]⟩
abbrev S8192 : Shape := ⟨1, ![8192]⟩
abbrev S65536 : Shape := ⟨1, ![65536]⟩
abbrev S128x128 : Shape := ⟨2, ![128, 128]⟩
abbrev S128 : Shape := ⟨1, ![128]⟩
abbrev S128x65536 : Shape := ⟨2, ![128, 65536]⟩
abbrev S1x128 : Shape := ⟨2, ![1, 128]⟩
abbrev S_ : Shape := ⟨0, ![]⟩
abbrev S512x65536 : Shape := ⟨2, ![512, 65536]⟩
abbrev S1x65536 : Shape := ⟨2, ![1, 65536]⟩
abbrev S8192x1 : Shape := ⟨2, ![8192, 1]⟩
abbrev S512x8192 : Shape := ⟨2, ![512, 8192]⟩
abbrev S65536x512 : Shape := ⟨2, ![65536, 512]⟩
abbrev S8192x512 : Shape := ⟨2, ![8192, 512]⟩
abbrev S65536x1 : Shape := ⟨2, ![65536, 1]⟩
abbrev S1 : Shape := ⟨1, ![1]⟩
abbrev S1x1 : Shape := ⟨2, ![1, 1]⟩

abbrev nBuf : Space → Nat
  | .hbm => 106
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S8192, .i32⟩
  | .hbm, ⟨2, _⟩ => ⟨S65536, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x65536, .f32⟩
  | .hbm, ⟨8, _⟩ => ⟨S65536, .f32⟩
  | .hbm, ⟨9, _⟩ => ⟨S512x128, .f32⟩
  | .hbm, ⟨10, _⟩ => ⟨S1x128, .f32⟩
  | .hbm, ⟨11, _⟩ => ⟨S512x128, .f32⟩
  | .hbm, ⟨12, _⟩ => ⟨S512x128, .f32⟩
  | .hbm, ⟨13, _⟩ => ⟨S_, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S_, .i32⟩
  | .hbm, ⟨19, _⟩ => ⟨S_, .f32⟩
  | .hbm, ⟨20, _⟩ => ⟨S128, .f32⟩
  | .hbm, ⟨21, _⟩ => ⟨S1x128, .f32⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S512x128, .f32⟩
  | .hbm, ⟨26, _⟩ => ⟨S512x128, .f32⟩
  | .hbm, ⟨27, _⟩ => ⟨S512x128, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S128, .f32⟩
  | .hbm, ⟨33, _⟩ => ⟨S128, .f32⟩
  | .hbm, ⟨34, _⟩ => ⟨S128, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S128, .f32⟩
  | .hbm, ⟨40, _⟩ => ⟨S128, .f32⟩
  | .hbm, ⟨41, _⟩ => ⟨S1x128, .f32⟩
  | .hbm, ⟨42, _⟩ => ⟨S512x128, .f32⟩
  | .hbm, ⟨43, _⟩ => ⟨S512x128, .f32⟩
  | .hbm, ⟨44, _⟩ => ⟨S_, .f32⟩
  | .hbm, ⟨45, _⟩ => ⟨S128, .f32⟩
  | .hbm, ⟨46, _⟩ => ⟨S128, .f32⟩
  | .hbm, ⟨47, _⟩ => ⟨S128, .f32⟩
  | .hbm, ⟨48, _⟩ => ⟨S1x128, .f32⟩
  | .hbm, ⟨49, _⟩ => ⟨S512x128, .f32⟩
  | .hbm, ⟨50, _⟩ => ⟨S512x128, .f32⟩
  | .hbm, ⟨51, _⟩ => ⟨S1x128, .f32⟩
  | .hbm, ⟨52, _⟩ => ⟨S512x128, .f32⟩
  | .hbm, ⟨53, _⟩ => ⟨S512x128, .f32⟩
  | .hbm, ⟨54, _⟩ => ⟨S1x128, .f32⟩
  | .hbm, ⟨55, _⟩ => ⟨S512x128, .f32⟩
  | .hbm, ⟨56, _⟩ => ⟨S512x128, .f32⟩
  | .hbm, ⟨57, _⟩ => ⟨S_, .f32⟩
  | .hbm, ⟨58, _⟩ => ⟨S512x128, .f32⟩
  | .hbm, ⟨59, _⟩ => ⟨S512x128, .f32⟩
  | .hbm, ⟨60, _⟩ => ⟨S512x65536, .f32⟩
  | .hbm, ⟨61, _⟩ => ⟨S1x65536, .f32⟩
  | .hbm, ⟨62, _⟩ => ⟨S512x65536, .f32⟩
  | .hbm, ⟨63, _⟩ => ⟨S512x65536, .f32⟩
  | .hbm, ⟨64, _⟩ => ⟨S_, .i32⟩
  | .hbm, ⟨65, _⟩ => ⟨S8192, .i32⟩
  | .hbm, ⟨66, _⟩ => ⟨S8192, .i1⟩
  | .hbm, ⟨67, _⟩ => ⟨S_, .i32⟩
  | .hbm, ⟨68, _⟩ => ⟨S8192, .i32⟩
  | .hbm, ⟨69, _⟩ => ⟨S8192, .i32⟩
  | .hbm, ⟨70, _⟩ => ⟨S8192, .i32⟩
  | .hbm, ⟨71, _⟩ => ⟨S8192x1, .i32⟩
  | .hbm, ⟨72, _⟩ => ⟨S_, .f32⟩
  | .hbm, ⟨73, _⟩ => ⟨S512x8192, .f32⟩
  | .hbm, ⟨74, _⟩ => ⟨S512x65536, .f32⟩
  | .hbm, ⟨75, _⟩ => ⟨S512x65536, .f32⟩
  | .hbm, ⟨76, _⟩ => ⟨S65536x512, .f32⟩
  | .hbm, ⟨77, _⟩ => ⟨S_, .f32⟩
  | .hbm, ⟨78, _⟩ => ⟨S8192x512, .f32⟩
  | .hbm, ⟨79, _⟩ => ⟨S65536x1, .i32⟩
  | .hbm, ⟨80, _⟩ => ⟨S8192x512, .f32⟩
  | .hbm, ⟨81, _⟩ => ⟨S512x8192, .f32⟩
  | .hbm, ⟨82, _⟩ => ⟨S_, .i32⟩
  | .hbm, ⟨83, _⟩ => ⟨S65536, .i32⟩
  | .hbm, ⟨84, _⟩ => ⟨S65536, .i1⟩
  | .hbm, ⟨85, _⟩ => ⟨S_, .i32⟩
  | .hbm, ⟨86, _⟩ => ⟨S65536, .i32⟩
  | .hbm, ⟨87, _⟩ => ⟨S65536, .i32⟩
  | .hbm, ⟨88, _⟩ => ⟨S65536, .i32⟩
  | .hbm, ⟨89, _⟩ => ⟨S65536x1, .i32⟩
  | .hbm, ⟨90, _⟩ => ⟨S1, .i32⟩
  | .hbm, ⟨91, _⟩ => ⟨S_, .i32⟩
  | .hbm, ⟨92, _⟩ => ⟨S65536x1, .i32⟩
  | .hbm, ⟨93, _⟩ => ⟨S65536x1, .i1⟩
  | .hbm, ⟨94, _⟩ => ⟨S1x1, .i32⟩
  | .hbm, ⟨95, _⟩ => ⟨S65536x1, .i32⟩
  | .hbm, ⟨96, _⟩ => ⟨S65536x1, .i1⟩
  | .hbm, ⟨97, _⟩ => ⟨S65536x1, .i1⟩
  | .hbm, ⟨98, _⟩ => ⟨S_, .i1⟩
  | .hbm, ⟨99, _⟩ => ⟨S65536, .i1⟩
  | .hbm, ⟨100, _⟩ => ⟨S512x65536, .f32⟩
  | .hbm, ⟨101, _⟩ => ⟨S512x65536, .i1⟩
  | .hbm, ⟨102, _⟩ => ⟨S_, .f32⟩
  | .hbm, ⟨103, _⟩ => ⟨S512x65536, .f32⟩
  | .hbm, ⟨104, _⟩ => ⟨S512x65536, .f32⟩
  | .hbm, ⟨105, _⟩ => ⟨S512x65536, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_cst_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_cst_1 : Ref sig .tc := ⟨.hbm, 29, rfl⟩
abbrev main_call0_v8 : Ref sig .tc := ⟨.hbm, 30, rfl⟩
abbrev main_call0_cst_2 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_cst_3 : Ref sig .tc := ⟨.hbm, 35, rfl⟩
abbrev main_call0_v12 : Ref sig .tc := ⟨.hbm, 36, rfl⟩
abbrev main_call0_cst_4 : Ref sig .tc := ⟨.hbm, 37, rfl⟩
abbrev main_call0_call0_v0 : Ref sig .tc := ⟨.hbm, 38, rfl⟩
abbrev main_call0_call0_v1 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_cst_1 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_call1_cst : Ref sig .tc := ⟨.hbm, 57, rfl⟩
abbrev main_call1_v0 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_c_2 : Ref sig .tc := ⟨.hbm, 64, rfl⟩
abbrev main_v28 : Ref sig .tc := ⟨.hbm, 65, rfl⟩
abbrev main_v29 : Ref sig .tc := ⟨.hbm, 66, rfl⟩
abbrev main_c_3 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_cst_4 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_cst_5 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_call2_c : Ref sig .tc := ⟨.hbm, 82, rfl⟩
abbrev main_call2_v0 : Ref sig .tc := ⟨.hbm, 83, rfl⟩
abbrev main_call2_v1 : Ref sig .tc := ⟨.hbm, 84, rfl⟩
abbrev main_call2_c_0 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_v5 : Ref sig .tc := ⟨.hbm, 89, rfl⟩
abbrev main_call2_c_1 : Ref sig .tc := ⟨.hbm, 90, rfl⟩
abbrev main_call2_c_2 : Ref sig .tc := ⟨.hbm, 91, rfl⟩
abbrev main_call2_v6 : Ref sig .tc := ⟨.hbm, 92, rfl⟩
abbrev main_call2_v7 : Ref sig .tc := ⟨.hbm, 93, rfl⟩
abbrev main_call2_v8 : Ref sig .tc := ⟨.hbm, 94, rfl⟩
abbrev main_call2_v9 : Ref sig .tc := ⟨.hbm, 95, rfl⟩
abbrev main_call2_v10 : Ref sig .tc := ⟨.hbm, 96, rfl⟩
abbrev main_call2_v11 : Ref sig .tc := ⟨.hbm, 97, rfl⟩
abbrev main_call2_c_3 : Ref sig .tc := ⟨.hbm, 98, rfl⟩
abbrev main_call2_v12 : Ref sig .tc := ⟨.hbm, 99, rfl⟩
abbrev main_call2_v13 : Ref sig .tc := ⟨.hbm, 100, rfl⟩
abbrev main_call2_v14 : Ref sig .tc := ⟨.hbm, 101, rfl⟩
abbrev main_call2_cst : Ref sig .tc := ⟨.hbm, 102, rfl⟩
abbrev main_call2_v15 : Ref sig .tc := ⟨.hbm, 103, rfl⟩
abbrev main_v42 : Ref sig .tc := ⟨.hbm, 104, rfl⟩
abbrev main_v43 : Ref sig .tc := ⟨.hbm, 105, rfl⟩

abbrev nD : Nat := 1
abbrev τ : Topo := Topo.v7x

variable {F : FTy → Type} [FloatOps F]
-- ==== Proof.KernelIdeal.Region0.lean ====
/- The first call (the hidden layer) as a pipeline region: its body's triple, its proof data and its body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.ValueKit.Basic
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first call: the hidden layer, at one point, from the buffer contents `V` -/

/-- The block of window `w` at point `t`, read from the contents `V`. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

set_option maxHeartbeats 1000000 in
/-- The hidden-layer body leaves its inputs as they were and stores the payload `k0_pay1` of the whole input
    blocks over its output block. -/
theorem h_body_triple (c : Dev nD) (E : Set ℕ)
    (a0 : Memref sig .tc .vmem S512x128 .f32) (ha0 : a0.IsWhole) (a1 : Memref sig .tc .vmem S128x128 .f32) (ha1 : a1.IsWhole)
    (a2 : Memref sig .tc .vmem S1x128 .f32) (ha2 : a2.IsWhole) (a3 : Memref sig .tc .vmem S1x128 .f32) (ha3 : a3.IsWhole)
    (a4 : Memref sig .tc .vmem S1x128 .f32) (ha4 : a4.IsWhole) (a5 : Memref sig .tc .vmem S512x128 .f32) (ha5 : a5.IsWhole)
    (x0 : Vec F S512x128 .f32) (x1 : Vec F S128x128 .f32) (x2 x3 x4 : Vec F S1x128 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare (k0_pay1 x0 x1 x2 x3 x4)) -∗ K ⟨⟩))
      ⊢ wp frame (wpE (defs₀ (F := F)) Variants.none c none) E (cc0__h_body a0 ha0 a1 ha1 a2 ha2 a3 ha3 a4 ha4 a5 ha5) K := by
  simp only [cc0__h_body_eq_skeleton]; unfold cc0__h_body_skel
  unfold owns
  iintro ⟨⟨%f0, %h0, H0⟩, ⟨%f1, %h1, H1⟩, ⟨%f2, %h2, H2⟩, ⟨%f3, %h3, H3⟩, ⟨%f4, %h4, H4⟩, ⟨%d5, %f5, -, H5⟩, Hk⟩
  subst h0 h1 h2 h3 h4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (fun y => View.cover_of_tiled [⟨_, _⟩] S512x128.size (by rfl) y)).trans ?_
  rw [View.canon_cons_unit_lit _ _ _ (by decide)]
  simp only [View.readAt_eq_ld]
  rw [View.ld_unit_lit _ _ (by decide), View.ld_unit_lit _ _ (by decide), View.ld_unit_lit _ _ (by decide),
    View.ld_unit_lit _ _ (by decide), View.ld_unit_lit _ _ (by decide)]

/-- The proof data of the first call: arrays as found, each input block left in place, the output block at the
    body's payload of the input blocks; nothing tracked beside them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay1 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_5 (c : Dev nD) (t : Fin cfg0.N) : (dat0 V c).after 5 t
    = k0_pay1 (iblk0 V c 0 t) (iblk0 V c 1 t) (iblk0 V c 2 t) (iblk0 V c 3 t) (iblk0 V c 4 t) := by dsimp only [dat0]

/-! Each input window is staged at its block before and after the body. -/

theorem after0_0 (c : Dev nD) (t : Fin cfg0.N) : (dat0 V c).after 0 t = iblk0 V c 0 t := by dsimp only [dat0]
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]) t d).trans
    (by unfold Dat.fetched Dat.blockOf iblk0; rw [A_eq0]; try rfl)
theorem after0_1 (c : Dev nD) (t : Fin cfg0.N) : (dat0 V c).after 1 t = iblk0 V c 1 t := by dsimp only [dat0]
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]) t d).trans
    (by unfold Dat.fetched Dat.blockOf iblk0; rw [A_eq0]; try rfl)
theorem after0_2 (c : Dev nD) (t : Fin cfg0.N) : (dat0 V c).after 2 t = iblk0 V c 2 t := by dsimp only [dat0]
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]) t d).trans
    (by unfold Dat.fetched Dat.blockOf iblk0; rw [A_eq0]; try rfl)
theorem after0_3 (c : Dev nD) (t : Fin cfg0.N) : (dat0 V c).after 3 t = iblk0 V c 3 t := by dsimp only [dat0]
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]) t d).trans
    (by unfold Dat.fetched Dat.blockOf iblk0; rw [A_eq0]; try rfl)
theorem after0_4 (c : Dev nD) (t : Fin cfg0.N) : (dat0 V c).after 4 t = iblk0 V c 4 t := by dsimp only [dat0]
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]) t d).trans
    (by unfold Dat.fetched Dat.blockOf iblk0; rw [A_eq0]; try rfl)

/-- What the body is called with at point `t`, window by window. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at its point: the triple above on the staged blocks, the rest passed through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (h_body_triple c Set.univ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row for the first call is its body. -/
theorem defs₀_row0 (t : Fin cfg0.N) :
    defs₀ (F := F) .tc cfg0.body (cfg0.bodyArgs t (cfg0.slots t)) = bodyAt0 t := by
  unfold defs₀; rw [Defs.onTc_tc]

/-- The first call meets the pipeline's obligation on its body. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Hand

end
-- ==== Proof.KernelIdeal.Body1.lean ====
/- The second call's body: what its two kinds of point leave, as triples on any staging memrefs. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.ValueKit.Basic
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second call: the clustered normalisation, at every point, from the buffer contents `V` -/

/-! ## What the body computes from its blocks -/

/-- Row `g + 1` of the bias block, as the body loads it: the biases of group `g + 1`'s columns of the tile. -/
def brow (g : Fin 7) (b : Vec F S8x2048 .f32) : Vec F S1x2048 .f32 :=
  View.ld b (Rect.unit (s := S8x2048) ![g.val + 1, 0] S1x2048.size (fun a => by
    have := g.isLt
    match a with
    | ⟨0, _⟩ => show g.val + 1 + 1 ≤ 8; omega
    | ⟨1, _⟩ => show 0 + 2048 ≤ 2048; omega))

/-- The sum of the first four groups' exponentials, on the hidden layer's block and the weight and bias blocks. -/
def sum4 (h : Vec F S512x128 .f32) (w : Fin 7 → Vec F S128x2048 .f32) (b : Vec F S8x2048 .f32) : FVec F S512x2048 .f32 :=
  k1_pay11 h (w 0) (brow 0 b) (w 1) (brow 1 b) (w 2) (brow 2 b) (w 3) (brow 3 b)

/-- What the summing point stores into the output block: the reciprocal of the groups' sum plus one. -/
def sumR (h : Vec F S512x128 .f32) (w : Fin 7 → Vec F S128x2048 .f32) (b : Vec F S8x2048 .f32) : Vec F S512x2048 .f32 :=
  k1_pay1 (k1_pay10 h) (sum4 h w b) (w 4) (brow 4 b) (w 5) (brow 5 b) (w 6) (brow 6 b)

/-- What it keeps in the scratch for the points of the same tile: that reciprocal's logarithm. -/
def sumL (h : Vec F S512x128 .f32) (w : Fin 7 → Vec F S128x2048 .f32) (b : Vec F S8x2048 .f32) : Vec F S512x2048 .f32 :=
  k1_pay2 (k1_pay10 h) (sum4 h w b) (w 4) (brow 4 b) (w 5) (brow 5 b) (w 6) (brow 6 b)

/-! ## The body's branches -/

/-- Branch `n` of the body is taken exactly at the points whose second coordinate is `n`. -/
theorem conds (i : grid1.Coords) : (k1_cond1 i = 1#1 ↔ (i 1).val = 0) ∧ (k1_cond2 i = 1#1 ↔ (i 1).val = 1) ∧ (k1_cond3 i = 1#1 ↔ (i 1).val = 2) ∧ (k1_cond4 i = 1#1 ↔ (i 1).val = 3) ∧ (k1_cond5 i = 1#1 ↔ (i 1).val = 4) ∧ (k1_cond6 i = 1#1 ↔ (i 1).val = 5) ∧ (k1_cond7 i = 1#1 ↔ (i 1).val = 6) ∧ (k1_cond8 i = 1#1 ↔ (i 1).val = 7) := by
  have h : (i 1).val < 8 := (i 1).isLt
  refine ⟨?_, ?_, ?_, ?_, ?_, ?_, ?_, ?_⟩
  · simp only [k1_cond1]; word_cmp
  · simp only [k1_cond2]; word_cmp
  · simp only [k1_cond3]; word_cmp
  · simp only [k1_cond4]; word_cmp
  · simp only [k1_cond5]; word_cmp
  · simp only [k1_cond6]; word_cmp
  · simp only [k1_cond7]; word_cmp
  · simp only [k1_cond8]; word_cmp

/-- One store over the whole 512 × 2048 block leaves its payload there. -/
theorem read_store (v : View sig .tc .vmem S512x2048 .f32) (f : v.ty.Contents (Elt F)) (p : Vec F S512x2048 .f32) :
    v.read (Elt F) (v.writes (Elt F) f [⟨Rect.unit (s := S512x2048) ![0, 0] S512x2048.size inb_S512x2048_S512x2048_0_0, p⟩]) = p :=
  (View.read_writes_eq_canon _ _ _ (fun y => View.cover_of_tiled [⟨_, _⟩] S512x2048.size (by rfl) y)).trans
    (View.canon_cons_unit_lit _ _ _ (by decide))

/-- A load of a whole 512 × 128 block reads it; likewise below for the other two whole shapes the body loads. -/
theorem ld_h (inb) (x : Vec F S512x128 .f32) : View.ld x (Rect.unit (s := S512x128) ![0, 0] (no_index S512x128.size) inb) = x :=
  View.ld_unit_lit inb x (by decide)
theorem ld_w (inb) (x : Vec F S128x2048 .f32) : View.ld x (Rect.unit (s := S128x2048) ![0, 0] (no_index S128x2048.size) inb) = x :=
  View.ld_unit_lit inb x (by decide)
theorem ld_s (inb) (x : Vec F S512x2048 .f32) : View.ld x (Rect.unit (s := S512x2048) ![0, 0] (no_index S512x2048.size) inb) = x :=
  View.ld_unit_lit inb x (by decide)

set_option maxHeartbeats 2000000 in
/-- At a point with second coordinate zero the body leaves its inputs as they were, the output block at `sumR`
    and the scratch at `sumL` of the input blocks. -/
theorem sum_triple (c : Dev nD) (E : Set ℕ) (i : grid1.Coords) (hi : (i 1).val = 0)
    (a2 : Memref sig .tc .vmem S512x128 .f32) (ha2 : a2.IsWhole)
    (a3 : Memref sig .tc .vmem S128x2048 .f32) (ha3 : a3.IsWhole)
    (a4 : Memref sig .tc .vmem S128x2048 .f32) (ha4 : a4.IsWhole)
    (a5 : Memref sig .tc .vmem S128x2048 .f32) (ha5 : a5.IsWhole)
    (a6 : Memref sig .tc .vmem S128x2048 .f32) (ha6 : a6.IsWhole)
    (a7 : Memref sig .tc .vmem S128x2048 .f32) (ha7 : a7.IsWhole)
    (a8 : Memref sig .tc .vmem S128x2048 .f32) (ha8 : a8.IsWhole)
    (a9 : Memref sig .tc .vmem S128x2048 .f32) (ha9 : a9.IsWhole)
    (a10 : Memref sig .tc .vmem S8x2048 .f32) (ha10 : a10.IsWhole)
    (a11 : Memref sig .tc .vmem S512x2048 .f32) (ha11 : a11.IsWhole)
    (a12 : Memref sig .tc .vmem S512x2048 .f32) (ha12 : a12.IsWhole)
    (x0 : Vec F S512x128 .f32) (x1 x2 x3 x4 x5 x6 x7 : Vec F S128x2048 .f32) (x8 : Vec F S8x2048 .f32) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ (∃ d, owns (c : Thread nD τ) a11 fullShare d) ∗ (∃ d, owns (c : Thread nD τ) a12 fullShare d)
        ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare (sumR x0 ![x1, x2, x3, x4, x5, x6, x7] x8) ∗ owns (c : Thread nD τ) a12 fullShare (sumL x0 ![x1, x2, x3, x4, x5, x6, x7] x8)) -∗ K ⟨⟩))
      ⊢ wp frame (wpE (defs₀ (F := F)) Variants.none c none) E (cc1__p_body i a2 ha2 a3 ha3 a4 ha4 a5 ha5 a6 ha6 a7 ha7 a8 ha8 a9 ha9 a10 ha10 a11 ha11 a12 ha12) K := by
  obtain ⟨c0, c1, c2, c3, c4, c5, c6, c7⟩ := conds i
  rw [hi] at c0 c1 c2 c3 c4 c5 c6 c7
  have q0 : k1_cond1 i = 1#1 := c0.2 rfl
  have q1 : ¬ k1_cond2 i = 1#1 := fun h => absurd (c1.1 h) (by decide)
  have q2 : ¬ k1_cond3 i = 1#1 := fun h => absurd (c2.1 h) (by decide)
  have q3 : ¬ k1_cond4 i = 1#1 := fun h => absurd (c3.1 h) (by decide)
  have q4 : ¬ k1_cond5 i = 1#1 := fun h => absurd (c4.1 h) (by decide)
  have q5 : ¬ k1_cond6 i = 1#1 := fun h => absurd (c5.1 h) (by decide)
  have q6 : ¬ k1_cond7 i = 1#1 := fun h => absurd (c6.1 h) (by decide)
  have q7 : ¬ k1_cond8 i = 1#1 := fun h => absurd (c7.1 h) (by decide)
  simp only [cc1__p_body_eq_skeleton]; unfold cc1__p_body_skel
  simp only [k1_part1_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, ⟨%ds, %fs, -, HS⟩, Hk⟩
  subst e0 e1 e2 e3 e4 e5 e6 e7 e8
  sl_exec (disch := first | sl_exact q0 | sl_exact q1 | sl_exact q2 | sl_exact q3 | sl_exact q4 | sl_exact q5 | sl_exact q6 | sl_exact q7)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr; swap; · iexact H9
    ipureintro
    refine (read_store _ _ _).trans ?_
    unfold sum_triple.sl.r_1 sum_triple.sl.r
    simp only [View.readAt_eq_ld]
    simp only [ld_h, ld_w]
    rfl
  iexists _; isplitr; swap; · iexact HS
  ipureintro
  refine (read_store _ _ _).trans ?_
  unfold sum_triple.sl.r_1 sum_triple.sl.r
  simp only [View.readAt_eq_ld]
  simp only [ld_h, ld_w]
  rfl

set_option maxHeartbeats 8000000 in
/-- At a point with second coordinate `g + 1` the body leaves its inputs and the scratch as they were and the
    output block at the emitting payload of group `g + 1`'s blocks and the scratch. -/
theorem emit_triple (c : Dev nD) (E : Set ℕ) (g : Fin 7) (i : grid1.Coords) (hi : (i 1).val = g.val + 1)
    (a2 : Memref sig .tc .vmem S512x128 .f32) (ha2 : a2.IsWhole)
    (a3 : Memref sig .tc .vmem S128x2048 .f32) (ha3 : a3.IsWhole)
    (a4 : Memref sig .tc .vmem S128x2048 .f32) (ha4 : a4.IsWhole)
    (a5 : Memref sig .tc .vmem S128x2048 .f32) (ha5 : a5.IsWhole)
    (a6 : Memref sig .tc .vmem S128x2048 .f32) (ha6 : a6.IsWhole)
    (a7 : Memref sig .tc .vmem S128x2048 .f32) (ha7 : a7.IsWhole)
    (a8 : Memref sig .tc .vmem S128x2048 .f32) (ha8 : a8.IsWhole)
    (a9 : Memref sig .tc .vmem S128x2048 .f32) (ha9 : a9.IsWhole)
    (a10 : Memref sig .tc .vmem S8x2048 .f32) (ha10 : a10.IsWhole)
    (a11 : Memref sig .tc .vmem S512x2048 .f32) (ha11 : a11.IsWhole)
    (a12 : Memref sig .tc .vmem S512x2048 .f32) (ha12 : a12.IsWhole)
    (x0 : Vec F S512x128 .f32) (x1 x2 x3 x4 x5 x6 x7 : Vec F S128x2048 .f32) (x8 : Vec F S8x2048 .f32) (s : Vec F S512x2048 .f32) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ (∃ d, owns (c : Thread nD τ) a11 fullShare d) ∗ owns (c : Thread nD τ) a12 fullShare s
        ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare (k1_pay3 x0 (![x1, x2, x3, x4, x5, x6, x7] g) (brow g x8) s) ∗ owns (c : Thread nD τ) a12 fullShare s) -∗ K ⟨⟩))
      ⊢ wp frame (wpE (defs₀ (F := F)) Variants.none c none) E (cc1__p_body i a2 ha2 a3 ha3 a4 ha4 a5 ha5 a6 ha6 a7 ha7 a8 ha8 a9 ha9 a10 ha10 a11 ha11 a12 ha12) K := by
  obtain ⟨c0, c1, c2, c3, c4, c5, c6, c7⟩ := conds i
  rw [hi] at c0 c1 c2 c3 c4 c5 c6 c7
  simp only [cc1__p_body_eq_skeleton]; unfold cc1__p_body_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, ⟨%fs, %es, HS⟩, Hk⟩
  subst e0 e1 e2 e3 e4 e5 e6 e7 e8 es
  fin_cases g
  all_goals
    sl_exec (disch := first
      | sl_exact c0.2 rfl | sl_exact c1.2 rfl | sl_exact c2.2 rfl | sl_exact c3.2 rfl | sl_exact c4.2 rfl | sl_exact c5.2 rfl | sl_exact c6.2 rfl | sl_exact c7.2 rfl
      | sl_exact mt c0.1 (by decide) | sl_exact mt c1.1 (by decide) | sl_exact mt c2.1 (by decide) | sl_exact mt c3.1 (by decide) | sl_exact mt c4.1 (by decide) | sl_exact mt c5.1 (by decide) | sl_exact mt c6.1 (by decide) | sl_exact mt c7.1 (by decide))
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists _; isplitr; swap; · iexact H9
      ipureintro
      refine (read_store _ _ _).trans ?_
      simp only [View.readAt_eq_ld]
      simp only [ld_h, ld_w, ld_s]
      rfl
    iexists fs; isplitr; · ipureintro; rfl
    iexact HS

end Cert.KernelIdeal.Hand

end
-- ==== Proof.KernelIdeal.Region1.lean ====
/- The second call (the clustered normalisation) as a pipeline region: its proof data, with the scratch carried from point to point, and its body obligation. -/
module

public import proofs.«01_k».proof.Proof.KernelIdeal.Body1

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t`, read from the contents `V`. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The seven weight blocks at point `t`: group `g + 1`'s in place `g`. -/
def wblk1 (c : Dev nD) (t : Fin cfg1.N) : Fin 7 → Vec F S128x2048 .f32 :=
  ![iblk1 V c 1 t, iblk1 V c 2 t, iblk1 V c 3 t, iblk1 V c 4 t, iblk1 V c 5 t, iblk1 V c 6 t, iblk1 V c 7 t]

/-- The first point of point `t`'s tile: the one that sums. -/
def tile0 (t : Fin cfg1.N) : Fin cfg1.N := ⟨t.val / 8 * 8, by have := t.isLt; omega⟩

/-- What the summing point `t` keeps in the scratch. -/
def lrAt (c : Dev nD) (t : Fin cfg1.N) : Vec F S512x2048 .f32 := sumL (iblk1 V c 0 t) (wblk1 V c t) (iblk1 V c 8 t)

/-- What the body leaves in the output block at point `t`: at a tile's first point the reciprocal of the sum, at
    the `g + 1`-th after it group `g + 1`'s exponential with the kept logarithm added in the exponent. -/
def outAt (c : Dev nD) (t : Fin cfg1.N) : Vec F S512x2048 .f32 :=
  if t.val % 8 = 0 then sumR (iblk1 V c 0 t) (wblk1 V c t) (iblk1 V c 8 t)
  else k1_pay3 (iblk1 V c 0 t) (wblk1 V c t ⟨t.val % 8 - 1, by omega⟩) (brow ⟨t.val % 8 - 1, by omega⟩ (iblk1 V c 8 t))
    (lrAt V c (tile0 t))

/-- The scratch before point `n`: past its tile's first point it holds what that point kept. -/
def scrAt (c : Dev nD) (n : ℕ) : sProp 𝕄 :=
  iprop(∃ d : Vec F S512x2048 .f32, ⌜∀ h : n / 8 * 8 < cfg1.N, n % 8 ≠ 0 → d = lrAt V c ⟨n / 8 * 8, h⟩⌝
    ∗ owns (c : Thread nD τ) (Memref.whole cc1_scratch0) fullShare d)

/-- The core's other scoped buffers, at some contents each, and its generator register at some state. -/
def restAt (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ ∃ r, prngReg c r)

/-- The proof data of the second call: arrays as found, each input block left in place, the output block at
    `outAt`; between points the scratch is tracked by `scrAt`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => outAt V c t
  Φ t := iprop(scrAt V c t.val ∗ restAt c)
  q w := Pipeline.shareOf spec1 w
  owed _ := 0

theorem A_eq1 (c : Dev nD) (w : Fin cfg1.W) : (dat1 V c).A w = V c (Pipeline.arrRef spec1 w) := by
  dsimp only [dat1]

theorem after1_9 (c : Dev nD) (t : Fin cfg1.N) : (dat1 V c).after 9 t = outAt V c t := by dsimp only [dat1]

/-! Each input window is staged at its block before and after the body. -/

theorem after1_0 (c : Dev nD) (t : Fin cfg1.N) : (dat1 V c).after 0 t = iblk1 V c 0 t := by dsimp only [dat1]
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]) t d).trans
    (by unfold Dat.fetched Dat.blockOf iblk1; rw [A_eq1]; try rfl)
theorem after1_1 (c : Dev nD) (t : Fin cfg1.N) : (dat1 V c).after 1 t = iblk1 V c 1 t := by dsimp only [dat1]
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]) t d).trans
    (by unfold Dat.fetched Dat.blockOf iblk1; rw [A_eq1]; try rfl)
theorem after1_2 (c : Dev nD) (t : Fin cfg1.N) : (dat1 V c).after 2 t = iblk1 V c 2 t := by dsimp only [dat1]
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]) t d).trans
    (by unfold Dat.fetched Dat.blockOf iblk1; rw [A_eq1]; try rfl)
theorem after1_3 (c : Dev nD) (t : Fin cfg1.N) : (dat1 V c).after 3 t = iblk1 V c 3 t := by dsimp only [dat1]
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]) t d).trans
    (by unfold Dat.fetched Dat.blockOf iblk1; rw [A_eq1]; try rfl)
theorem after1_4 (c : Dev nD) (t : Fin cfg1.N) : (dat1 V c).after 4 t = iblk1 V c 4 t := by dsimp only [dat1]
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]) t d).trans
    (by unfold Dat.fetched Dat.blockOf iblk1; rw [A_eq1]; try rfl)
theorem after1_5 (c : Dev nD) (t : Fin cfg1.N) : (dat1 V c).after 5 t = iblk1 V c 5 t := by dsimp only [dat1]
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]) t d).trans
    (by unfold Dat.fetched Dat.blockOf iblk1; rw [A_eq1]; try rfl)
theorem after1_6 (c : Dev nD) (t : Fin cfg1.N) : (dat1 V c).after 6 t = iblk1 V c 6 t := by dsimp only [dat1]
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]) t d).trans
    (by unfold Dat.fetched Dat.blockOf iblk1; rw [A_eq1]; try rfl)
theorem after1_7 (c : Dev nD) (t : Fin cfg1.N) : (dat1 V c).after 7 t = iblk1 V c 7 t := by dsimp only [dat1]
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]) t d).trans
    (by unfold Dat.fetched Dat.blockOf iblk1; rw [A_eq1]; try rfl)
theorem after1_8 (c : Dev nD) (t : Fin cfg1.N) : (dat1 V c).after 8 t = iblk1 V c 8 t := by dsimp only [dat1]
theorem before1_8 (c : Dev nD) (t : Fin cfg1.N) (d) : (dat1 V c).before 8 t d = iblk1 V c 8 t :=
  ((dat1 V c).before_in_eq_fetched 8 rfl (fun _ => rfl) (fun _ _ _ => rfl)
    (fun t => by rw [after1_8]; unfold Dat.blockOf iblk1; rw [A_eq1]) t d).trans
    (by unfold Dat.fetched Dat.blockOf iblk1; rw [A_eq1]; try rfl)

/-- The scoped buffers and the register the call is entered with give the invariant before the first point. -/
theorem inv_in (c : Dev nD) : (iprop(Pipeline.scopedRest spec1 c ∗ ∃ r, prngReg c r) : sProp 𝕄) ⊢ (dat1 V c).Φ 0 := by
  rw [show (dat1 V c).Φ 0 = iprop(scrAt V c 0 ∗ restAt c) from rfl, scopedRest1_eq]
  unfold scrAt restAt
  simp only [owns_whole]
  iintro ⟨⟨H0, H1, H2, H3, H4, H5, ⟨%f, HS⟩⟩, Hp⟩
  isplitl [HS]
  · iexists f; isplitr
    · ipureintro; exact fun _ h => absurd rfl h
    iexact HS
  isplitl [H0]; · iexact H0
  isplitl [H1]; · iexact H1
  isplitl [H2]; · iexact H2
  isplitl [H3]; · iexact H3
  isplitl [H4]; · iexact H4
  isplitl [H5]; · iexact H5
  iexact Hp

/-- The invariant after the last point gives them back. -/
theorem inv_out (c : Dev nD) (n) : (dat1 V c).Φ n ⊢ (iprop(Pipeline.scopedRest spec1 c ∗ ∃ r, prngReg c r) : sProp 𝕄) := by
  rw [show (dat1 V c).Φ n = iprop(scrAt V c n.val ∗ restAt c) from rfl, scopedRest1_eq]
  unfold scrAt restAt
  simp only [owns_whole]
  iintro ⟨⟨%f, -, HS⟩, H0, H1, H2, H3, H4, H5, Hp⟩
  isplitr [Hp]
  · isplitl [H0]; · iexact H0
    isplitl [H1]; · iexact H1
    isplitl [H2]; · iexact H2
    isplitl [H3]; · iexact H3
    isplitl [H4]; · iexact H4
    isplitl [H5]; · iexact H5
    iexists f; iexact HS
  iexact Hp

/-- The second coordinate of point `t` is its position within its tile, -/
theorem coord1 (t : Fin cfg1.N) : (grid1.coords t 1).val = t.val % 8 := by
  have h : (grid1.coords t 1).val = t.val / 1 % 8 := Pipeline.Grid.coords_val t 1 (by decide) rfl
  rw [h, Nat.div_one]

/-- so every point stores into the output block. -/
theorem live9 : ∀ t : Fin cfg1.N, cfg1.idle 9 (grid1.coords t) = false := by decide +kernel

/-- What the body is called with at point `t`, window by window. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- What it hands back. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t)

theorem leaves1_0 (c : Dev nD) (t : Fin cfg1.N) :
    (dat1 V c).leavesExact 0 t = owns (c : Thread nD τ) (st1_0 t) fullShare (iblk1 V c 0 t) := by
  unfold Dat.leavesExact; rw [show cfg1.idle 0 (grid1.coords t) = false from rfl, after1_0]
theorem leaves1_1 (c : Dev nD) (t : Fin cfg1.N) :
    (dat1 V c).leavesExact 1 t = owns (c : Thread nD τ) (st1_1 t) fullShare (iblk1 V c 1 t) := by
  unfold Dat.leavesExact; rw [show cfg1.idle 1 (grid1.coords t) = false from rfl, after1_1]
theorem leaves1_2 (c : Dev nD) (t : Fin cfg1.N) :
    (dat1 V c).leavesExact 2 t = owns (c : Thread nD τ) (st1_2 t) fullShare (iblk1 V c 2 t) := by
  unfold Dat.leavesExact; rw [show cfg1.idle 2 (grid1.coords t) = false from rfl, after1_2]
theorem leaves1_3 (c : Dev nD) (t : Fin cfg1.N) :
    (dat1 V c).leavesExact 3 t = owns (c : Thread nD τ) (st1_3 t) fullShare (iblk1 V c 3 t) := by
  unfold Dat.leavesExact; rw [show cfg1.idle 3 (grid1.coords t) = false from rfl, after1_3]
theorem leaves1_4 (c : Dev nD) (t : Fin cfg1.N) :
    (dat1 V c).leavesExact 4 t = owns (c : Thread nD τ) (st1_4 t) fullShare (iblk1 V c 4 t) := by
  unfold Dat.leavesExact; rw [show cfg1.idle 4 (grid1.coords t) = false from rfl, after1_4]
theorem leaves1_5 (c : Dev nD) (t : Fin cfg1.N) :
    (dat1 V c).leavesExact 5 t = owns (c : Thread nD τ) (st1_5 t) fullShare (iblk1 V c 5 t) := by
  unfold Dat.leavesExact; rw [show cfg1.idle 5 (grid1.coords t) = false from rfl, after1_5]
theorem leaves1_6 (c : Dev nD) (t : Fin cfg1.N) :
    (dat1 V c).leavesExact 6 t = owns (c : Thread nD τ) (st1_6 t) fullShare (iblk1 V c 6 t) := by
  unfold Dat.leavesExact; rw [show cfg1.idle 6 (grid1.coords t) = false from rfl, after1_6]
theorem leaves1_7 (c : Dev nD) (t : Fin cfg1.N) :
    (dat1 V c).leavesExact 7 t = owns (c : Thread nD τ) (st1_7 t) fullShare (iblk1 V c 7 t) := by
  unfold Dat.leavesExact; rw [show cfg1.idle 7 (grid1.coords t) = false from rfl, after1_7]
theorem leaves1_8 (c : Dev nD) (t : Fin cfg1.N) :
    (dat1 V c).leavesExact 8 t = owns (c : Thread nD τ) (st1_8 t) fullShare (iblk1 V c 8 t) := by
  unfold Dat.leavesExact; rw [show cfg1.idle 8 (grid1.coords t) = false from rfl, after1_8]
theorem leaves1_9 (c : Dev nD) (t : Fin cfg1.N) :
    (dat1 V c).leavesExact 9 t = owns (c : Thread nD τ) (st1_9 t) fullShare (outAt V c t) := by
  unfold Dat.leavesExact; rw [live9 t, after1_9]

set_option maxHeartbeats 2000000 in
/-- The body at any point: the summing triple at a tile's first point, the emitting one at the others, on the
    staged blocks and the scratch; the rest passed through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8
    , leaves1_0, leaves1_1, leaves1_2, leaves1_3, leaves1_4, leaves1_5, leaves1_6, leaves1_7, leaves1_8, leaves1_9]
  rw [show (dat1 V c).Φ t.succ = iprop(scrAt V c (t.val + 1) ∗ restAt c) from rfl,
    show (dat1 V c).Φ t.castSucc = iprop(scrAt V c t.val ∗ restAt c) from rfl,
    show (dat1 V c).owesAt () t.succ = (dat1 V c).owesAt () t.castSucc from rfl]
  have ht := t.isLt
  unfold scrAt
  iintro ⟨⟨⟨%ds, %hs, HS⟩, HΦ⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  by_cases h0 : t.val % 8 = 0
  · rw [show outAt V c t = sumR (iblk1 V c 0 t) (wblk1 V c t) (iblk1 V c 8 t) from if_pos h0]
    iapply (sum_triple c Set.univ (grid1.coords t) ((coord1 t).trans h0) _ _ _ _ _ _ _ _ _ _ _ _ _ _ _ _ _ _ _ _ _ _
      (iblk1 V c 0 t) (iblk1 V c 1 t) (iblk1 V c 2 t) (iblk1 V c 3 t) (iblk1 V c 4 t) (iblk1 V c 5 t) (iblk1 V c 6 t) (iblk1 V c 7 t) (iblk1 V c 8 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS]; · iexists _; iexact HS
    iintro ⟨H0, H1, H2, H3, H4, H5, H6, H7, H8, H9, HS⟩
    isplitl [HS HΦ]
    · isplitl [HS]
      · iexists _; isplitr; swap; · iexact HS
        ipureintro
        intro h _
        exact congrArg (lrAt V c) (Fin.ext (by show t.val = (t.val + 1) / 8 * 8; omega) : t = ⟨(t.val + 1) / 8 * 8, h⟩)
      iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [show outAt V c t = _ from if_neg h0]
    obtain rfl : ds = lrAt V c (tile0 t) := hs (tile0 t).isLt h0
    iapply (emit_triple c Set.univ ⟨t.val % 8 - 1, by omega⟩ (grid1.coords t)
      ((coord1 t).trans (by show t.val % 8 = t.val % 8 - 1 + 1; omega)) _ _ _ _ _ _ _ _ _ _ _ _ _ _ _ _ _ _ _ _ _ _
      (iblk1 V c 0 t) (iblk1 V c 1 t) (iblk1 V c 2 t) (iblk1 V c 3 t) (iblk1 V c 4 t) (iblk1 V c 5 t) (iblk1 V c 6 t) (iblk1 V c 7 t) (iblk1 V c 8 t) (lrAt V c (tile0 t)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS]; · iexact HS
    iintro ⟨H0, H1, H2, H3, H4, H5, H6, H7, H8, H9, HS⟩
    isplitl [HS HΦ]
    · isplitl [HS]
      · iexists _; isplitr; swap; · iexact HS
        ipureintro
        intro h hn
        exact congrArg (lrAt V c) (Fin.ext (by show t.val / 8 * 8 = (t.val + 1) / 8 * 8; omega) : tile0 t = ⟨(t.val + 1) / 8 * 8, h⟩)
      iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row for the second call is its body. -/
theorem defs₀_row1 (t : Fin cfg1.N) :
    defs₀ (F := F) .tc cfg1.body (cfg1.bodyArgs t (cfg1.slots t)) = bodyAt1 t := by
  unfold defs₀; rw [Defs.onTc_tc]

/-- The second call meets the pipeline's obligation on its body. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Hand

end
-- ==== Proof.KernelIdeal.Run.lean ====
/- The run of the whole program: its segments, the buffer contents between them, and the frame claim. -/
module

public import proofs.«01_k».proof.Proof.KernelIdeal.Region0
public import proofs.«01_k».proof.Proof.KernelIdeal.Region1

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: reshapes, the hidden layer, a reshape, the clustered normalisation -/

/-- @main's argument arrays. -/
abbrev argRefs : List (Ref sig .tc) := [main_arg0, main_arg1, main_arg2, main_arg3, main_arg4, main_arg5, main_arg6, main_arg7, main_arg8]

/-! ## What the host stretches write -/

theorem ops0_fresh : (hostOps0 : List (HloOp τ sig (Elt F))).Forall fun op => op.fresh = ∅ := by
  simp only [List.Forall]; repeat' constructor
abbrev ops0_W : List (Ref sig .tc) := [main_v0, main_v1, main_v2]
theorem ops0_writes : (hostOps0 : List (HloOp τ sig (Elt F))).Forall fun op => op.writes ⊆ (ops0_W.map (Proc.devRef (τ := τ) .tc)).toFinset :=
  StableHlo.forall_writes_sub_of_map rfl
theorem ops0_args : ∀ a ∈ argRefs, a ∉ ops0_W := ListAll.forall_mem_of_all_decide (by decide +kernel)
theorem ops1_fresh : (hostOps1 : List (HloOp τ sig (Elt F))).Forall fun op => op.fresh = ∅ := by
  simp only [List.Forall]; repeat' constructor
abbrev ops1_W : List (Ref sig .tc) := [main_v4]
theorem ops1_writes : (hostOps1 : List (HloOp τ sig (Elt F))).Forall fun op => op.writes ⊆ (ops1_W.map (Proc.devRef (τ := τ) .tc)).toFinset :=
  StableHlo.forall_writes_sub_of_map rfl
theorem ops1_args : ∀ a ∈ argRefs, a ∉ ops1_W := ListAll.forall_mem_of_all_decide (by decide +kernel)

/-! ## The buffers between the items: a fold through @main -/

/-- Core `c`'s buffers at launch, -/
abbrev W0 : Dev nD → Valuation τ sig (Elt F) := fun c b => (s₀ m ρ).mem ((c : Dev nD), b)
/-- after the first reshapes, -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- after the hidden layer's call, -/
def W2 (c : Dev nD) : Valuation τ sig (Elt F) :=
  Pipeline.withArrays spec0 c (W1 m ρ c) fun w => (dat0 (U1 m ρ) c).arrAt w cfg0.N
abbrev U2 : (c : Dev nD) → (b : Ref sig .tc) → Buf (Elt F) ((c : Thread nD τ).loc b) := fun c b => W2 m ρ c b
/-- after the second reshape, -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- and at the return. -/
def W4 (c : Dev nD) : Valuation τ sig (Elt F) :=
  Pipeline.withArrays spec1 c (W3 m ρ c) fun w => (dat1 (U3 m ρ) c).arrAt w cfg1.N
abbrev U4 : (c : Dev nD) → (b : Ref sig .tc) → Buf (Elt F) ((c : Thread nD τ).loc b) := fun c b => W4 m ρ c b

theorem W1_of (c : Dev nD) (r : Ref sig .tc) (h : r ∉ ops0_W) : W1 m ρ c (Proc.devRef .tc r) = W0 m ρ c (Proc.devRef .tc r) :=
  StableHlo.after_of_writes_sub hostOps0 _ ops0_writes h
theorem W3_of (c : Dev nD) (r : Ref sig .tc) (h : r ∉ ops1_W) : W3 m ρ c (Proc.devRef .tc r) = W2 m ρ c (Proc.devRef .tc r) :=
  StableHlo.after_of_writes_sub hostOps1 _ ops1_writes h

theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The hidden layer's call changes none but its output array. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (U1 m ρ) c).arrAt_in w (h w rfl) _).trans (A_eq0 (U1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)

theorem W4_arr (c : Dev nD) (w : Fin cfg1.W) :
    W4 m ρ c (Proc.devRef .tc (Pipeline.arrRef spec1 w)) = (dat1 (U3 m ρ) c).arrAt w cfg1.N := by
  unfold W4; exact (dat1 (U3 m ρ) c).withArrays_arrAt launch₀1.sharedIn _ (A_eq1 (U3 m ρ) c) w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The second call changes none but its output array. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (U3 m ρ) c).arrAt_in w (h w rfl) _).trans (A_eq1 (U3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)

/-- No item changes an argument array. -/
theorem W3_args (c : Dev nD) (a) (ha : a ∈ argRefs) : W3 m ρ c (Proc.devRef .tc a) = m ((c : Thread nD τ).loc a) :=
  (W3_of m ρ c a (ops1_args a ha)).trans
    ((W2_of m ρ c a (argsIn0 a ha)).trans ((W1_of m ρ c a (ops0_args a ha)).trans rfl))
theorem W4_args (c : Dev nD) (a) (ha : a ∈ argRefs) : W4 m ρ c (Proc.devRef .tc a) = m ((c : Thread nD τ).loc a) :=
  (W4_of m ρ c a (argsIn1 a ha)).trans (W3_args m ρ c a ha)

theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-! ## The segments -/

/-- No call has a prefetched table. -/
abbrev noTab : (p : Fin 2) → (pcfgs (F := F) p).Adm := fun p => (cfgs p).toPCfg_adm
/-- Each call's proof data, at the contents it is entered with. -/
def pdats : (p : Fin 2) → (c : Dev nD) → Dat τ (Elt F) Unit ℕ (UR sig nD τ) ℕ (Pipeline.pin (pcfgs (F := F)) noTab p) c
  | ⟨0, _⟩ => fun c => dat0 (U1 m ρ) c
  | ⟨1, _⟩ => fun c => dat1 (U3 m ρ) c
abbrev 𝒱₀ : Variants := Variants.none
abbrev L : GSem nD τ sig → Finset Unit := fun _ => ∅
abbrev lv : GSem nD τ sig → Unit → ℕ := fun _ _ => 0
/-- What rides along beside the buffers: the generator register at some state, and nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The state at the return: every unscoped buffer at `W4`. -/
abbrev Tₙ (c : Dev nD) : sProp 𝕄 := iprop(StableHlo.held (c : Thread nD τ) (Pipeline.ucRefs τ sig) (W4 m ρ c) ∗ ∃ r, prngReg c r)

set_option backward.isDefEq.respectTransparency.types false in
/-- The hidden layer's call as a segment, from `W1` to `W2`. -/
def reg0 : Pipeline.RegionSeg (pcfgs (F := F)) noTab (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) noTab (pdats m ρ) launch0.win launch0.arr_whole c
      ((pdats m ρ 0 c).share_full fun _ => rfl) (U1 m ρ c) (A_eq0 (U1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTab (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call as a segment, from `W3` to `W4`: seven of its input windows share the weight array, and the
    scratch's contents ride in its own invariant. -/
def reg1 : Pipeline.RegionSeg (pcfgs (F := F)) noTab (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs_shared (p := 1) (pcfgs (F := F)) noTab (pdats m ρ) launch₀1.win launch₀1.sharedIn launch₀1.arr_whole c
      (fun _ _ => rfl) (U3 m ρ c) (A_eq1 (U3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest spec1 c ∗ ∃ r, prngReg c r) : sProp 𝕄) ⊢ (pdats m ρ 1 c).Φ 0 := inv_in (U3 m ρ) c
    iintro ⟨Hp, -, Hr⟩
    iapply h
    isplitl [Hr]; · iexact Hr
    iexact Hp
  hout c := by
    have h : (pdats m ρ 1 c).Φ (Fin.last _) ⊢ (iprop(Pipeline.scopedRest spec1 c ∗ ∃ r, prngReg c r) : sProp 𝕄) :=
      inv_out (U3 m ρ) c (Fin.last _)
    rw [Pipeline.ownSems0_none]
    iintro HΦ
    ihave H := h $$ HΦ
    icases H with ⟨Hr, Hp⟩
    isplitl [Hp]; · iexact Hp
    isplitr; · iempintro
    iexact Hr
  hexit c := by
    have hjoin := Pipeline.unscopedBufs_of_arrays_shared (p := 1) (pcfgs (F := F)) noTab (Ix := Unit) (Name := ℕ) (U := UR sig nD τ) (Lvl := ℕ)
      launch₀1.win launch₀1.sharedIn launch₀1.arr_whole c (pdats m ρ) (fun _ _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's segments in order. -/
abbrev mainSegs : List (Pipeline.Seg (pcfgs (F := F)) noTab (pdats m ρ) () defs₀ 𝒱₀ L lv) :=
  [ .host (hseg hostOps0 hostOps0_sub ops0_fresh (W0 m ρ)), .region (reg0 m ρ),
    .host (hseg hostOps1 hostOps1_sub ops1_fresh (W2 m ρ)), .region (reg1 m ρ) ]
theorem main_run (c : Dev nD) : main (F := F) c = Pipeline.Seg.run (mainSegs m ρ) := (main_chain c).trans (by chain_rfl)
theorem no_unscoped : ∀ sm : SemLoc sig, sm.isScoped .tc = true := by decide

set_option backward.isDefEq.respectTransparency.types false in
/-- Every execution of @main terminates without a fault, leaves every unscoped buffer at the fold's `W4`, and every
    semaphore at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b)
      ∧ r.2.sem = fun _ => 0) :=
  Pipeline.θ_run_regions_kit_sems (pcfgs (F := F)) noTab (pdats m ρ) () cellOf_inj emb₁ defs₀ 𝒱₀ L lv m ρ main (mainSegs m ρ)
    (fun c Q => by rw [main_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- Read at the arguments: the frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => by
    have hb : ∀ a ∈ argRefs, ¬ (Proc.devRef .tc a : DevRef τ sig).isScoped → r.2.mem ((c.tc : Thread nD τ).loc a) = m ((c.tc : Thread nD τ).loc a) :=
      fun a ha hu => (h.1 c _ (mem_uc a hu)).trans (W4_args m ρ c a ha)
    exact ⟨hb main_arg0 (by decide) (by decide), hb main_arg1 (by decide) (by decide), hb main_arg2 (by decide) (by decide), hb main_arg3 (by decide) (by decide), hb main_arg4 (by decide) (by decide), hb main_arg5 (by decide) (by decide), hb main_arg6 (by decide) (by decide), hb main_arg7 (by decide) (by decide), hb main_arg8 (by decide) (by decide)⟩, h.2⟩) (run m ρ)

end Cert.KernelIdeal.Hand

end
-- ==== Proof.Kernel.Frame.lean ====
/- The frame claim of the compiled program, which is printed word for word as its idealized reading. -/
module

public import proofs.«01_k».proof.Proof.Gen.Kernel
public import proofs.«01_k».proof.Proof.KernelIdeal.Run

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.Sem

variable {F : FTy → Type} [FloatOps F]
variable (m : (ℓ : Loc nD τ sig) → Buf (Elt F) ℓ) (ρ : Dev nD → PrngReg)

/-- The compiled program's kernel bodies are the idealized program's, -/
theorem bodies_eq : Cert.Kernel.defs₀ (F := F) = Cert.KernelIdeal.defs₀ (F := F) := by chain_rfl

/-- so its body table with the pipelines is the idealized program's. -/
theorem defs_eq : Cert.Kernel.defs (F := F) = Cert.KernelIdeal.defs (F := F) := by
  unfold Cert.Kernel.defs Cert.KernelIdeal.defs
  exact congrArg (Pipeline.defs _) bodies_eq

/-- Every execution of the compiled program terminates without a fault, leaves the arguments as launched and every
    semaphore at zero: the program is the idealized one read at the same floats, whose frame claim this is. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
)      ∧ r.2.sem = fun _ => 0) := by
  rw [defs_eq]
  exact Cert.KernelIdeal.Hand.frame (F := F) m ρ

end Cert.Kernel.Hand

end
-- ==== Proof.ReferenceIdeal.Index.lean ====
/- How the reference's three indexed operations move elements: which element of the operand an update of either scatter
   lands on, and which element the gather reads, in terms of the index words. -/
module

public import proofs.«01_k».proof.Proof.Gen.ReferenceIdeal.Read
public import Idealize.ShloMosaic.Lib.Routing.OpsPair
public import Idealize.ShloMosaic.Lib.Routing.OpsSet
public import Idealize.ShloMosaic.Lib.WordCmp
public import Idealize.ShloMosaic.Lib.ReduceAll

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx Idealize.ShloMosaic.Routing

/-- The scatter that overwrites columns. -/
abbrev dSet := scatter_S512x65536_S8192x1_S512x8192_0_1_1_1
/-- The scatter that adds rows. -/
abbrev dAdd := scatter_S8192x512_S65536x1_S65536x512_1_0_0_1
/-- The gather that takes columns. -/
abbrev dTake := gather_S512x8192_S65536x1_S512x65536_0_1_n_n_1_1_5121

/-- Where the column-overwriting scatter keeps the index word of its column `n`. -/
def atCol (n : Fin 8192) : S8192x1.Idx := ix2 n (0 : Fin 1)
/-- Where the row-adding scatter and the gather keep the index word of their row or column `n`. -/
def atRow (n : Fin 65536) : S65536x1.Idx := ix2 n (0 : Fin 1)

/-- The index word update `j` of the column-overwriting scatter goes by is the one of its column. -/
theorem dSet_siIdx (j : S512x8192.Idx) (q : Fin dSet.scatterDimsToOperandDims.length) :
    dSet.siIdx j q = atCol (j 1) := by
  funext b
  match b with
  | ⟨0, _⟩ =>
    unfold ScatterDims.siIdx
    exact (dif_neg Nat.zero_ne_one).trans rfl
  | ⟨1, _⟩ => exact Subsingleton.elim (α := Fin 1) _ _

/-- Update `j` of the column-overwriting scatter lands at `i` exactly when it is in the same row and its column's index
    word, read signed, is `i`'s column. -/
theorem dSet_lands (j : S512x8192.Idx) (idx : IVec S8192x1 32) (i : S512x65536.Idx) :
    dSet.resultIdx? j idx = some i ↔ (j 0).val = (i 0).val ∧ (idx (atCol (j 1))).toInt = ((i 1).val : Int) := by
  rw [resultIdx?_eq_some]
  have s0 : dSet.start j idx 0 = 0 := by
    unfold ScatterDims.start; rw [dif_neg (by decide)]
  have s1 : dSet.start j idx 1 = (idx (atCol (j 1))).toInt := by
    unfold ScatterDims.start; rw [dif_pos (by decide), dSet_siIdx]
  have w0 : dSet.window j 0 = (j 0).val := by
    unfold ScatterDims.window; rw [dif_pos (by decide)]; rfl
  have w1 : dSet.window j 1 = 0 := by
    unfold ScatterDims.window; rw [dif_neg (by decide)]
  constructor
  · intro h
    have h0 := h 0
    have h1 := h 1
    rw [s0, w0] at h0; rw [s1, w1] at h1
    exact ⟨by omega, by omega⟩
  · rintro ⟨h0, h1⟩ a
    match a with
    | ⟨0, _⟩ => show dSet.start j idx 0 + (dSet.window j 0 : Int) = ((i 0).val : Int); rw [s0, w0]; omega
    | ⟨1, _⟩ => show dSet.start j idx 1 + (dSet.window j 1 : Int) = ((i 1).val : Int); rw [s1, w1]; omega

/-- The index word update `j` of the row-adding scatter goes by is the one of its row. -/
theorem dAdd_siIdx (j : S65536x512.Idx) (q : Fin dAdd.scatterDimsToOperandDims.length) :
    dAdd.siIdx j q = atRow (j 0) := by
  funext b
  match b with
  | ⟨0, _⟩ =>
    unfold ScatterDims.siIdx
    exact (dif_neg Nat.zero_ne_one).trans rfl
  | ⟨1, _⟩ => exact Subsingleton.elim (α := Fin 1) _ _

/-- Update `j` of the row-adding scatter lands at `i` exactly when it is in the same column and its row's index word, read
    signed, is `i`'s row. -/
theorem dAdd_lands (j : S65536x512.Idx) (idx : IVec S65536x1 32) (i : S8192x512.Idx) :
    dAdd.resultIdx? j idx = some i ↔ (idx (atRow (j 0))).toInt = ((i 0).val : Int) ∧ (j 1).val = (i 1).val := by
  rw [resultIdx?_eq_some]
  have s0 : dAdd.start j idx 0 = (idx (atRow (j 0))).toInt := by
    unfold ScatterDims.start; rw [dif_pos (by decide), dAdd_siIdx]
  have s1 : dAdd.start j idx 1 = 0 := by
    unfold ScatterDims.start; rw [dif_neg (by decide)]
  have w0 : dAdd.window j 0 = 0 := by
    unfold ScatterDims.window; rw [dif_neg (by decide)]
  have w1 : dAdd.window j 1 = (j 1).val := by
    unfold ScatterDims.window; rw [dif_pos (by decide)]; rfl
  constructor
  · intro h
    have h0 := h 0
    have h1 := h 1
    rw [s0, w0] at h0; rw [s1, w1] at h1
    exact ⟨by omega, by omega⟩
  · rintro ⟨h0, h1⟩ a
    match a with
    | ⟨0, _⟩ => show dAdd.start j idx 0 + (dAdd.window j 0 : Int) = ((i 0).val : Int); rw [s0, w0]; omega
    | ⟨1, _⟩ => show dAdd.start j idx 1 + (dAdd.window j 1 : Int) = ((i 1).val : Int); rw [s1, w1]; omega

/-- The gather reads, at `i`, the operand in `i`'s row at the column its index word names, when that word names a column. -/
theorem dTake_reads {α : Type} (x : S512x8192.Idx → α) (idx : IVec S65536x1 32) (i : S512x65536.Idx) (k : Fin 8192)
    (hk : idx (atRow (i 1)) = BitVec.ofNat 32 k.val) : Host.gather dTake x idx i = x (ix2 (i 0) k) := by
  unfold Host.gather
  refine congrArg x (funext fun a => Fin.ext ?_)
  have hsi : ∀ q, dTake.siIdx i q = atRow (i 1) := fun q => by
    funext b
    match b with
    | ⟨0, _⟩ =>
      unfold GatherDims.siIdx
      exact (dif_neg Nat.zero_ne_one).trans rfl
    | ⟨1, _⟩ => exact Subsingleton.elim (α := Fin 1) _ _
  match a with
  | ⟨0, _⟩ =>
    show dTake.start i idx 0 + dTake.batchCoord i 0 + dTake.offCoord i 0 = (i 0).val
    have s0 : dTake.start i idx 0 = 0 := by unfold GatherDims.start; rw [dif_neg (by decide)]
    have o0 : dTake.offCoord i 0 = (i 0).val := by unfold GatherDims.offCoord; rw [dif_pos (by decide)]; rfl
    rw [s0, o0, dTake.batchCoord_eq_zero _ _ (by decide)]
    omega
  | ⟨1, _⟩ =>
    show dTake.start i idx 1 + dTake.batchCoord i 1 + dTake.offCoord i 1 = k.val
    have s1 : dTake.start i idx 1 = k.val := by
      unfold GatherDims.start
      rw [dif_pos (by decide), hsi, hk, Predicate.toInt_ofNat_small _ (by omega)]
      show min (k.val : Int).toNat (8192 - 1) = k.val
      omega
    rw [s1, dTake.batchCoord_eq_zero _ _ (by decide), dTake.offCoord_eq_zero _ _ (by decide)]
    rfl

end Cert.ReferenceIdeal.Hand

end
-- ==== Proof.ReferenceIdeal.Clusters.lean ====
/- The reference's result read at an index, when the first of every cluster's words are the words `0 … 8191` in order and
   the word of position `n` names cluster `n mod 8192`: the exponential of the logit there (one, for a cluster's first
   position) over the sum of the exponentials of the eight positions of its cluster. -/
module

public import proofs.«01_k».proof.Proof.ReferenceIdeal.Index

@[expose] public section

noncomputable section

namespace Cert.ReferenceIdeal.Hand

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx Idealize.ShloMosaic.Routing

/-- The exponential of a logit, one where the position is the first of its cluster. -/
def expo (L : S512x65536.Idx → EReal) (r : Fin 512) (n : Nat) (hn : n < 65536) : EReal :=
  if n < 8192 then 1 else Ideal.exp (L (ix2 r (⟨n, hn⟩ : Fin 65536)))

/-- The eight exponentials of a cluster, added. -/
def expoSum (L : S512x65536.Idx → EReal) (r : Fin 512) (p : Fin 8192) : EReal :=
  ∑ g : Fin 8, expo L r (p.val + 8192 * g.val) (by omega)

variable (x0 : (⟨S512x128, .f32⟩ : BufTy).Contents (Elt Ideal)) (x1 : (⟨S8192, .i32⟩ : BufTy).Contents (Elt Ideal))
  (x2 : (⟨S65536, .i32⟩ : BufTy).Contents (Elt Ideal)) (x3 : (⟨S128x128, .f32⟩ : BufTy).Contents (Elt Ideal))
  (x4 x5 x6 : (⟨S128, .f32⟩ : BufTy).Contents (Elt Ideal)) (x7 : (⟨S128x65536, .f32⟩ : BufTy).Contents (Elt Ideal))
  (x8 : (⟨S65536, .f32⟩ : BufTy).Contents (Elt Ideal))

/-- The word the column-overwriting scatter goes by for column `n` is `n`. -/
theorem setWord (h1 : ∀ n : S8192.Idx, x1 n = BitVec.ofNat 32 (n 0).val) (n : Fin 8192) :
    val_main_v33 (F := Ideal) x1 (atCol n) = BitVec.ofNat 32 n.val := by
  have e : x1 (idx_main_v33 (atCol n)) = BitVec.ofNat 32 n.val := h1 _
  rw [val_main_v33_apply, val_main_v32_apply, val_main_v29_apply, val_main_v28_apply, val_main_c_2_apply, e]
  exact wrap_of_lt _ _ (by rw [BitVec.toNat_ofNat]; omega)

/-- The word the row-adding scatter goes by for row `n` is `n mod 8192`. -/
theorem addWord (h2 : ∀ n : S65536.Idx, x2 n = BitVec.ofNat 32 ((n 0).val % 8192)) (n : Fin 65536) :
    val_main_v39 (F := Ideal) x2 (atRow n) = BitVec.ofNat 32 (n.val % 8192) := by
  rw [val_main_v39_apply]
  exact h2 _

/-- The word the gather goes by at row `i` is `i mod 8192`. -/
theorem takeWord (h2 : ∀ n : S65536.Idx, x2 n = BitVec.ofNat 32 ((n 0).val % 8192)) (i : S65536x1.Idx) :
    val_main_call2_v5 (F := Ideal) x2 i = BitVec.ofNat 32 ((i 0).val % 8192) := by
  have e : x2 (idx_main_call2_v5 i) = BitVec.ofNat 32 ((i 0).val % 8192) := h2 _
  rw [val_main_call2_v5_apply, val_main_call2_v4_apply, val_main_call2_v1_apply, val_main_call2_v0_apply, val_main_call2_c_apply, e]
  exact wrap_of_lt _ _ (by rw [BitVec.toNat_ofNat]; omega)

/-- The logits after the overwriting scatter: zero in the first 8192 columns, untouched in the others. -/
theorem set_apply (h1 : ∀ n : S8192.Idx, x1 n = BitVec.ofNat 32 (n 0).val) (r : Fin 512) (n : Fin 65536) :
    val_main_v35 (F := Ideal) x0 x1 x3 x4 x5 x6 x7 x8 (ix2 r n) =
      if n.val < 8192 then (0 : EReal) else val_main_v27 (F := Ideal) x0 x3 x4 x5 x6 x7 x8 (ix2 r n) := by
  unfold val_main_v35
  by_cases h : n.val < 8192
  · rw [if_pos h]
    refine scatter_set_hit dSet _ _ _ _ _ (fun k _ => ?_) (ix2 r (⟨n.val, h⟩ : Fin 8192)) ?_
    · rw [val_main_v34_apply, val_main_cst_4_apply]; exact Ideal.ofBits_zero_f32
    · rw [dSet_lands]
      refine ⟨rfl, ?_⟩
      have e : val_main_v33 (F := Ideal) x1 (atCol ⟨n.val, h⟩) = BitVec.ofNat 32 n.val := setWord x1 h1 ⟨n.val, h⟩
      refine (congrArg BitVec.toInt e).trans ?_
      exact Predicate.toInt_ofNat_small _ (by omega)
  · rw [if_neg h]
    refine scatter_set_miss dSet _ _ _ _ fun k hk => h ?_
    rw [dSet_lands] at hk
    have e := setWord x1 h1 (k 1)
    have hk2 := (congrArg BitVec.toInt e).symm.trans hk.2
    have hk1 : (k 1).val < 8192 := (k 1).isLt
    rw [Predicate.toInt_ofNat_small _ (by omega)] at hk2
    have hk3 : (k 1).val = n.val := by exact_mod_cast hk2
    omega

/-- The exponentials the reference forms. -/
theorem exp_apply (h1 : ∀ n : S8192.Idx, x1 n = BitVec.ofNat 32 (n 0).val) (r : Fin 512) (n : Fin 65536) :
    val_main_v36 (F := Ideal) x0 x1 x3 x4 x5 x6 x7 x8 (ix2 r n) = expo (val_main_v27 (F := Ideal) x0 x3 x4 x5 x6 x7 x8) r n.val n.isLt := by
  rw [val_main_v36_apply, set_apply _ _ _ _ _ _ _ _ h1]
  unfold expo
  by_cases h : n.val < 8192
  · rw [if_pos h, if_pos h]
    show ((Real.exp 0 : ℝ) : EReal) = 1
    rw [Real.exp_zero]; rfl
  · rw [if_neg h, if_neg h]; rfl

/-- Each cluster's sum, as the row-adding scatter forms it. -/
theorem add_apply (h1 : ∀ n : S8192.Idx, x1 n = BitVec.ofNat 32 (n 0).val)
    (h2 : ∀ n : S65536.Idx, x2 n = BitVec.ofNat 32 ((n 0).val % 8192)) (p : Fin 8192) (r : Fin 512) :
    val_main_v40 (F := Ideal) x0 x1 x2 x3 x4 x5 x6 x7 x8 (ix2 p r) = expoSum (val_main_v27 (F := Ideal) x0 x3 x4 x5 x6 x7 x8) r p := by
  have word : ∀ j : S65536x512.Idx, (val_main_v39 (F := Ideal) x2 (atRow (j 0))).toInt = (((j 0).val % 8192 : Nat) : Int) := fun j => by
    refine (congrArg BitVec.toInt (addWord x2 h2 (j 0))).trans ?_
    exact Predicate.toInt_ofNat_small _ (by omega)
  have lands : ∀ j : S65536x512.Idx, dAdd.resultIdx? j (val_main_v39 (F := Ideal) x2) = some (ix2 p r) ↔
      (j 0).val % 8192 = p.val ∧ (j 1).val = r.val := fun j => by
    rw [dAdd_lands, word]
    exact and_congr_left' Int.ofNat_inj
  have elt : ∀ (n : Fin 65536) (q : Fin 512), val_main_v37 (F := Ideal) x0 x1 x3 x4 x5 x6 x7 x8 (ix2 n q) =
      expo (val_main_v27 (F := Ideal) x0 x3 x4 x5 x6 x7 x8) q n.val n.isLt := fun n q => by
    rw [val_main_v37_apply, ← exp_apply _ _ _ _ _ _ _ _ h1]
    exact congrArg _ (funext fun a => Fin.ext (by match a with | ⟨0, _⟩ => rfl | ⟨1, _⟩ => rfl))
  unfold val_main_v40
  generalize val_main_v37 (F := Ideal) x0 x1 x3 x4 x5 x6 x7 x8 = y at elt
  show Ideal.hostScatterAdd dAdd (val_main_v38 (F := Ideal)) (val_main_v39 (F := Ideal) x2) y (ix2 p r) = _
  unfold Ideal.hostScatterAdd expoSum
  rw [val_main_v38_apply, val_main_cst_5_apply]
  refine (congrArg (· + _) Ideal.ofBits_zero_f32).trans ((zero_add _).trans (Eq.symm ?_))
  refine Finset.sum_bij (fun g _ => ix2 (⟨p.val + 8192 * g.val, by omega⟩ : Fin 65536) r) (fun g _ => ?_) (fun a _ b _ e => ?_) (fun j hj => ?_)
    (fun g _ => (elt ⟨p.val + 8192 * g.val, by omega⟩ r).symm)
  · refine Finset.mem_filter.2 ⟨Finset.mem_univ _, (lands _).2 ⟨?_, rfl⟩⟩
    show (p.val + 8192 * g.val) % 8192 = p.val
    omega
  · have e0 : p.val + 8192 * a.val = p.val + 8192 * b.val := congrArg (fun i : S65536x512.Idx => (i 0).val) e
    exact Fin.ext (by omega)
  · obtain ⟨q0, q1⟩ := (lands j).1 (Finset.mem_filter.1 hj).2
    have hj0 : (j 0).val < 65536 := (j 0).isLt
    refine ⟨⟨(j 0).val / 8192, by omega⟩, Finset.mem_univ _, funext fun a => Fin.ext ?_⟩
    match a with
    | ⟨0, _⟩ => show p.val + 8192 * ((j 0).val / 8192) = (j 0).val; omega
    | ⟨1, _⟩ => exact q1.symm

/-- The range mask of the gather is all ones: every word names a column. -/
theorem mask_one (h2 : ∀ n : S65536.Idx, x2 n = BitVec.ofNat 32 ((n 0).val % 8192)) (i : S512x65536.Idx) :
    val_main_call2_v14 (F := Ideal) x2 i = 1#1 := by
  rw [val_main_call2_v14_apply]
  unfold val_main_call2_v12
  refine Host.reduce_andi_one _ _ _ _ _ rfl fun k => ?_
  rw [val_main_call2_v11_apply, val_main_call2_v7_apply, val_main_call2_v10_apply, val_main_call2_v6_apply,
    val_main_call2_v9_apply, val_main_call2_v8_apply, val_main_call2_c_1_apply, val_main_call2_c_2_apply, takeWord x2 h2 k]
  refine IntOp.andi_eq_one.2 ⟨?_, ?_⟩
  · exact (WordCmp.cmpi_sge_ofNat_eq_one_iff (w := 32) (a := (k 0).val % 8192) (b := 0) (by omega) (by omega)).2 (by omega)
  · exact (WordCmp.cmpi_sle_ofNat_eq_one_iff (w := 32) (a := (k 0).val % 8192) (b := 8191) (by omega) (by omega)).2 (by omega)

/-- The reference's result at row `r`, position `n`: the exponential there over its cluster's sum. -/
theorem result_apply (h1 : ∀ n : S8192.Idx, x1 n = BitVec.ofNat 32 (n 0).val)
    (h2 : ∀ n : S65536.Idx, x2 n = BitVec.ofNat 32 ((n 0).val % 8192)) (r : Fin 512) (n : Fin 65536) :
    val_main_v43 (F := Ideal) x0 x1 x2 x3 x4 x5 x6 x7 x8 (ix2 r n) =
      Ideal.div (expo (val_main_v27 (F := Ideal) x0 x3 x4 x5 x6 x7 x8) r n.val n.isLt)
        (expoSum (val_main_v27 (F := Ideal) x0 x3 x4 x5 x6 x7 x8) r ⟨n.val % 8192, by omega⟩) := by
  rw [val_main_v43_apply, val_main_v42_apply, mask_one x2 h2, exp_apply _ _ _ _ _ _ _ _ h1]
  refine congrArg (Ideal.div _) ((WordCmp.select_of_eq_one rfl _ _).trans ?_)
  unfold val_main_call2_v13
  refine (dTake_reads _ _ (ix2 r n) ⟨n.val % 8192, by omega⟩ (takeWord x2 h2 (atRow n))).trans ?_
  rw [val_main_v41_apply, ← add_apply _ _ _ _ _ _ _ _ _ h1 h2]
  exact congrArg _ (funext fun a => Fin.ext (by match a with | ⟨0, _⟩ => rfl | ⟨1, _⟩ => rfl))

end Cert.ReferenceIdeal.Hand

end
-- ==== Proof.KernelIdeal.Payload.lean ====
/- The kernels' payloads at the ideal values, at an index: the hidden layer, the logits, the groups' sum and the emitted block. -/
module

public import proofs.«01_k».proof.Proof.KernelIdeal.Body1
public import Idealize.ShloMosaic.Lib.MatmulPlain
public import Idealize.ShloMosaic.Lib.ValueIdx
public import Idealize.ShloMosaic.Lib.IdealHost
public import Idealize.ShloMosaic.Lib.Pipeline.ValueKit.Tiles

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The payloads at the ideal values, index by index -/

open ValueIdx

/-! ## Logits -/

/-- The logit of row `r` at column `x` of a weight block: the hidden row times the column, plus the bias there. -/
def blogit (h : Vec Ideal S512x128 .f32) (w : Vec Ideal S128x2048 .f32) (b : Vec Ideal S1x2048 .f32)
    (r : Fin 512) (x : Fin 2048) : EReal :=
  (∑ k : Fin 128, h (ix2 r k) * w (ix2 k x)) + b (ix2 (0 : Fin 1) x)

/-- The kernel's own term for a block of logits. -/
def vterm (h : Vec Ideal S512x128 .f32) (w : Vec Ideal S128x2048 .f32) (b : Vec Ideal S1x2048 .f32) : FVec Ideal S512x2048 .f32 :=
  addf (matmul (φ₁ := .f32) (φ₂ := .f32) dot_S512x128_S128x2048_S512x2048_1_0_0_1_n_n none h w (constant (F := Ideal) S512x2048 .f32 0x00000000#32))
    (broadcastTo S512x2048 (shapeCast S1x2048 (shapeCast S2048 b shapeCasts_S1x2048_S2048) shapeCasts_S2048_S1x2048)
      broadcasts_S1x2048_S512x2048)

/-- At an index it is the logit. -/
theorem vterm_apply (h : Vec Ideal S512x128 .f32) (w : Vec Ideal S128x2048 .f32) (b : Vec Ideal S1x2048 .f32)
    (r : Fin 512) (x : Fin 2048) : vterm h w b (ix2 r x) = blogit h w b r x := by
  have e1 : matmul (φ₁ := .f32) (φ₂ := .f32) dot_S512x128_S128x2048_S512x2048_1_0_0_1_n_n none h w (constant (F := Ideal) S512x2048 .f32 0x00000000#32) (ix2 r x)
      = ∑ k : Fin 128, h (ix2 r k) * w (ix2 k x) := by
    refine (Ideal.matmul_plain_apply none h w (constant (F := Ideal) S512x2048 .f32 0x00000000#32) r x).trans ?_
    rw [constant_apply]
    exact (congrArg (· + _) Ideal.ofBits_zero_f32).trans (zero_add _)
  have e2 : broadcastTo S512x2048 (shapeCast S1x2048 (shapeCast S2048 b shapeCasts_S1x2048_S2048) shapeCasts_S2048_S1x2048)
      broadcasts_S1x2048_S512x2048 (ix2 r x) = b (ix2 (0 : Fin 1) x) := by
    rw [shapeCast_shapeCast]
    exact broadcastTo_apply b broadcasts_S1x2048_S512x2048 (ix2 r x) (ix2 (0 : Fin 1) x) (fun a => by
      match a with
      | ⟨0, _⟩ => rfl
      | ⟨1, _⟩ => rfl)
  exact (congrArg₂ (fun p q : EReal => p + q) e1 e2)

/-- Row `g + 1` of the bias block at a column. -/
theorem brow_apply (g : Fin 7) (b : Vec Ideal S8x2048 .f32) (x : Fin 2048) :
    brow g b (ix2 (0 : Fin 1) x) = b (ix2 (g.succ : Fin 8) x) :=
  View.ld_unit_apply_of b _ _ _ (ix2 (0 : Fin 1) x) (ix2 (g.succ : Fin 8) x) (fun a => by
    match a with
    | ⟨0, _⟩ => rfl
    | ⟨1, _⟩ => exact (Nat.zero_add _).symm)

/-! ## The groups' sum -/

/-- The sum of the seven groups' exponentials at row `r` and tile column `x`. -/
def bsum (h : Vec Ideal S512x128 .f32) (w : Fin 7 → Vec Ideal S128x2048 .f32) (b : Vec Ideal S8x2048 .f32)
    (r : Fin 512) (x : Fin 2048) : EReal :=
  ∑ g : Fin 7, Ideal.exp (blogit h (w g) (brow g b) r x)

/-- The kernel's chain of additions is that sum. -/
theorem bsum_eq (h : Vec Ideal S512x128 .f32) (w : Fin 7 → Vec Ideal S128x2048 .f32) (b : Vec Ideal S8x2048 .f32)
    (r : Fin 512) (x : Fin 2048) :
    Ideal.exp (vterm h (w 0) (brow 0 b) (ix2 r x)) + Ideal.exp (vterm h (w 1) (brow 1 b) (ix2 r x))
      + Ideal.exp (vterm h (w 2) (brow 2 b) (ix2 r x)) + Ideal.exp (vterm h (w 3) (brow 3 b) (ix2 r x))
      + Ideal.exp (vterm h (w 4) (brow 4 b) (ix2 r x)) + Ideal.exp (vterm h (w 5) (brow 5 b) (ix2 r x))
      + Ideal.exp (vterm h (w 6) (brow 6 b) (ix2 r x)) = bsum h w b r x := by
  unfold bsum
  rw [Fin.sum_univ_seven]
  simp only [vterm_apply]

/-- The summing point's block: one over the sum plus one. -/
theorem sumR_apply (h : Vec Ideal S512x128 .f32) (w : Fin 7 → Vec Ideal S128x2048 .f32) (b : Vec Ideal S8x2048 .f32)
    (r : Fin 512) (x : Fin 2048) : sumR h w b (ix2 r x) = Ideal.div 1 (bsum h w b r x + 1) := by
  have e : k1_pay10 h = h := shapeCast_self h _
  unfold sumR sum4
  rw [e, ← bsum_eq]
  have e' : k1_pay10 h = h := e
  unfold k1_pay11
  rw [e', ← Ideal.ofBits_one_f32]
  rfl

/-- What it keeps for the tile: that quotient's logarithm. -/
theorem sumL_apply (h : Vec Ideal S512x128 .f32) (w : Fin 7 → Vec Ideal S128x2048 .f32) (b : Vec Ideal S8x2048 .f32)
    (r : Fin 512) (x : Fin 2048) : sumL h w b (ix2 r x) = Ideal.log (Ideal.div 1 (bsum h w b r x + 1)) := by
  rw [← sumR_apply]
  unfold sumL k1_pay2
  rw [shapeCast_self]
  rfl

/-- The emitting point's block: the exponential of the logit plus what the tile keeps. -/
theorem emit_apply (h : Vec Ideal S512x128 .f32) (w : Vec Ideal S128x2048 .f32) (b : Vec Ideal S1x2048 .f32)
    (s : Vec Ideal S512x2048 .f32) (r : Fin 512) (x : Fin 2048) :
    k1_pay3 h w b s (ix2 r x) = Ideal.exp (blogit h w b r x + s (ix2 r x)) := by
  rw [← vterm_apply]
  unfold k1_pay3
  rw [shapeCast_self]
  rfl

/-! ## The hidden layer -/

/-- The hidden layer before normalisation, at row `r` and feature `d`. -/
def hpre (z : Vec Ideal S512x128 .f32) (w : Vec Ideal S128x128 .f32) (b : Vec Ideal S1x128 .f32) (r : Fin 512) (d : Fin 128) : EReal :=
  (∑ k : Fin 128, z (ix2 r k) * w (ix2 k d)) + b (ix2 (0 : Fin 1) d)

/-- The mean of a column of 512 values. -/
def cmean (p : Fin 512 → EReal) : EReal := Ideal.div (∑ r : Fin 512, p r) (Ideal.ofBits .f32 0x44000000#32)

/-- Its variance. -/
def cvar (p : Fin 512 → EReal) : EReal := cmean fun r => (p r - cmean p) * (p r - cmean p)

/-- A block's row vector, repeated over the rows, reads its column. -/
theorem row_apply (v : FVec Ideal S1x128 .f32) (r : Fin 512) (d : Fin 128) :
    broadcastTo S512x128 v broadcasts_S1x128_S512x128 (ix2 r d) = v (ix2 (0 : Fin 1) d) :=
  broadcastTo_apply v broadcasts_S1x128_S512x128 (ix2 r d) (ix2 (0 : Fin 1) d) (fun a => by
    match a with
    | ⟨0, _⟩ => rfl
    | ⟨1, _⟩ => rfl)

/-- The mean over the rows, as the kernel takes it. -/
def vmean (v : FVec Ideal S512x128 .f32) : FVec Ideal S1x128 .f32 :=
  divf (shapeCast S1x128 (multiReduction .add [0] S128 v 0x00000000#32 reduces_S512x128_S128 (.inl rfl) rfl) shapeCasts_S128_S1x128)
    (broadcast S1x128 (Scalar.ofBits .f32 0x44000000#32))

/-- At a feature it is that column's mean. -/
theorem vmean_apply (v : FVec Ideal S512x128 .f32) (d : Fin 128) :
    vmean v (ix2 (0 : Fin 1) d) = cmean fun r => v (ix2 r d) := by
  have e : shapeCast S1x128 (multiReduction .add [0] S128 v 0x00000000#32 reduces_S512x128_S128 (.inl rfl) rfl)
      shapeCasts_S128_S1x128 (ix2 (0 : Fin 1) d) = ∑ r : Fin 512, v (ix2 r d) := by
    refine (shapeCast_addUnit_apply _ _ shapeCasts_S128_S1x128 (ix2 (0 : Fin 1) d)).trans ?_
    refine (Ideal.multiReduction_add_single v _ reduces_S512x128_S128 (.inl rfl) rfl _).trans ?_
    refine Finset.sum_congr rfl fun r _ => congrArg v (funext fun a => Fin.ext ?_)
    match a with
    | ⟨0, _⟩ => rfl
    | ⟨1, _⟩ => rfl
  unfold vmean
  rw [divf_apply, e]
  rfl

/-- The kernel's term for the hidden layer before normalisation. -/
def vpre (z : Vec Ideal S512x128 .f32) (w : Vec Ideal S128x128 .f32) (b : Vec Ideal S1x128 .f32) : FVec Ideal S512x128 .f32 :=
  addf (matmul (φ₁ := .f32) (φ₂ := .f32) dot_S512x128_S128x128_S512x128_1_0_0_1_n_n none z w (constant (F := Ideal) S512x128 .f32 0x00000000#32))
    (broadcastTo S512x128 b broadcasts_S1x128_S512x128)

/-- At an index it is the sum above. -/
theorem vpre_apply (z : Vec Ideal S512x128 .f32) (w : Vec Ideal S128x128 .f32) (b : Vec Ideal S1x128 .f32)
    (r : Fin 512) (d : Fin 128) : vpre z w b (ix2 r d) = hpre z w b r d := by
  have e1 : matmul (φ₁ := .f32) (φ₂ := .f32) dot_S512x128_S128x128_S512x128_1_0_0_1_n_n none z w (constant (F := Ideal) S512x128 .f32 0x00000000#32) (ix2 r d)
      = ∑ k : Fin 128, z (ix2 r k) * w (ix2 k d) := by
    refine (Ideal.matmul_plain_apply none z w (constant (F := Ideal) S512x128 .f32 0x00000000#32) r d).trans ?_
    rw [constant_apply]
    exact (congrArg (· + _) Ideal.ofBits_zero_f32).trans (zero_add _)
  have e2 := row_apply b r d
  unfold vpre
  exact congrArg₂ (fun p q : EReal => p + q) e1 e2

/-- The centred hidden layer, as the kernel takes it. -/
def vcen (v : FVec Ideal S512x128 .f32) : FVec Ideal S512x128 .f32 :=
  subf v (broadcastTo S512x128 (vmean v) broadcasts_S1x128_S512x128)

/-- At an index it is the value less its column's mean. -/
theorem vcen_apply (v : FVec Ideal S512x128 .f32) (r : Fin 512) (d : Fin 128) :
    vcen v (ix2 r d) = v (ix2 r d) - cmean fun r => v (ix2 r d) := by
  unfold vcen
  rw [subf_apply, row_apply, vmean_apply]

/-- The hidden layer's value from a column `p` before normalisation, at row `r`, with scale `ga` and shift `be`. -/
def hval (p : Fin 512 → EReal) (r : Fin 512) (ga be : EReal) : EReal :=
  max ((p r - cmean p) * Ideal.rsqrt (cvar p + Ideal.ofBits .f32 0x3A83126F#32) * ga + be) 0

/-- The first kernel's payload: the normalised, scaled, shifted and rectified hidden layer. -/
theorem hidden_apply (z : Vec Ideal S512x128 .f32) (w : Vec Ideal S128x128 .f32) (b ga be : Vec Ideal S1x128 .f32)
    (r : Fin 512) (d : Fin 128) :
    k0_pay1 z w b ga be (ix2 r d) =
      hval (fun r => hpre z w b r d) r (ga (ix2 (0 : Fin 1) d)) (be (ix2 (0 : Fin 1) d)) := by
  have ep : ∀ r, vpre z w b (ix2 r d) = hpre z w b r d := fun r => vpre_apply z w b r d
  have ec : ∀ r, vcen (vpre z w b) (ix2 r d) = hpre z w b r d - cmean fun r => hpre z w b r d := fun r =>
    (vcen_apply _ r d).trans (by simp only [ep])
  have ev : vmean (mulf (vcen (vpre z w b)) (vcen (vpre z w b))) (ix2 (0 : Fin 1) d) = cvar fun r => hpre z w b r d := by
    rw [vmean_apply]
    unfold cvar
    refine congrArg cmean (funext fun r => ?_)
    rw [mulf_apply, ec]
  have e : k0_pay1 z w b ga be = maximumf (addf (mulf (mulf (vcen (vpre z w b))
      (broadcastTo S512x128 (rsqrt (addf (vmean (mulf (vcen (vpre z w b)) (vcen (vpre z w b))))
        (broadcast S1x128 (Scalar.ofBits .f32 0x3A83126F#32)))) broadcasts_S1x128_S512x128))
      (broadcastTo S512x128 ga broadcasts_S1x128_S512x128)) (broadcastTo S512x128 be broadcasts_S1x128_S512x128))
      (broadcast S512x128 (Scalar.ofBits .f32 0x00000000#32)) := by
    unfold k0_pay1
    simp only [shapeCast_self]
    rfl
  rw [e, maximumf_apply, addf_apply, mulf_apply, mulf_apply, row_apply, row_apply, row_apply, ec]
  unfold hval
  refine congrArg₂ (max : EReal → EReal → EReal) ?_ Ideal.ofBits_zero_f32
  refine congrArg (fun q : EReal => ((hpre z w b r d - cmean fun r => hpre z w b r d) * q) * ga (ix2 (0 : Fin 1) d) + be (ix2 (0 : Fin 1) d)) ?_
  exact congrArg (fun q : EReal => Ideal.rsqrt (q + Ideal.ofBits .f32 0x3A83126F#32)) ev

end Cert.KernelIdeal.Hand

end
-- ==== Proof.KernelIdeal.Value.lean ====
/- The two calls' final arrays at the ideal values: what each element of the hidden layer and of the result is, from the arrays the calls are given. -/
module

public import proofs.«01_k».proof.Proof.KernelIdeal.Payload
public import proofs.«01_k».proof.Proof.KernelIdeal.Region0
public import proofs.«01_k».proof.Proof.KernelIdeal.Region1
public import Idealize.ShloMosaic.Lib.Pipeline.ValueKit.Geometry

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

variable (V : (c : Dev nD) → (b : Ref sig .tc) → Buf (Elt Ideal) ((c : Thread nD τ).loc b))

/-! # Where each window's block lies -/

theorem idx1_0 : ∀ t : Fin cfg1.N, win1_0.index t = ![0, 0] := (by decide +kernel : ∀ t : Fin grid1.N, _)
theorem idx1_8 : ∀ t : Fin cfg1.N, win1_8.index t = ![0, t.val / 8] := (by decide +kernel : ∀ t : Fin grid1.N, _)
theorem idx1_9 : ∀ t : Fin cfg1.N, win1_9.index t = ![0, t.val % 8 * 4 + t.val / 8] := (by decide +kernel : ∀ t : Fin grid1.N, _)
theorem idx1_1 : ∀ t : Fin cfg1.N, t.val % 8 ≤ 1 → win1_1.index t = ![0, 4 + t.val / 8] := (by decide +kernel : ∀ t : Fin grid1.N, _)
theorem idx1_2 : ∀ t : Fin cfg1.N, t.val % 8 ≤ 2 → win1_2.index t = ![0, 8 + t.val / 8] := (by decide +kernel : ∀ t : Fin grid1.N, _)
theorem idx1_3 : ∀ t : Fin cfg1.N, t.val % 8 ≤ 3 → win1_3.index t = ![0, 12 + t.val / 8] := (by decide +kernel : ∀ t : Fin grid1.N, _)
theorem idx1_4 : ∀ t : Fin cfg1.N, t.val % 8 ≤ 4 → win1_4.index t = ![0, 16 + t.val / 8] := (by decide +kernel : ∀ t : Fin grid1.N, _)
theorem idx1_5 : ∀ t : Fin cfg1.N, t.val % 8 ≤ 5 → win1_5.index t = ![0, 20 + t.val / 8] := (by decide +kernel : ∀ t : Fin grid1.N, _)
theorem idx1_6 : ∀ t : Fin cfg1.N, t.val % 8 ≤ 6 → win1_6.index t = ![0, 24 + t.val / 8] := (by decide +kernel : ∀ t : Fin grid1.N, _)
theorem idx1_7 : ∀ t : Fin cfg1.N, t.val % 8 ≤ 7 → win1_7.index t = ![0, 28 + t.val / 8] := (by decide +kernel : ∀ t : Fin grid1.N, _)

/-- A tile's column, in the whole row of one group. -/
theorem col_lt (t : Fin cfg1.N) (x : Fin 2048) : t.val / 8 * 2048 + x.val < 8192 := by
  have : t.val < 32 := t.isLt
  omega

/-- The hidden layer the second call is given. -/
def arrH (c : Dev nD) : Vec Ideal S512x128 .f32 := V c main_v3
/-- The second layer's weights it is given. -/
def arrW (c : Dev nD) : Vec Ideal S128x65536 .f32 := V c main_arg7
/-- The second layer's biases it is given, one row per group. -/
def arrB (c : Dev nD) : Vec Ideal S8x8192 .f32 := V c main_v4

/-- The column a weight block starts at, one group after another. -/
theorem wcol (a q x : Nat) : (4 * (a + 1) + q) * 2048 + x = (a + 1) * 8192 + (q * 2048 + x) := by omega

/-- The hidden layer's block is the whole hidden layer. -/
theorem blk1_0 (c : Dev nD) (t : Fin cfg1.N) (r : Fin 512) (k : Fin 128) :
    iblk1 V c 0 t (ix2 r k) = arrH V c (ix2 r k) := by
  blk_simp [iblk1]
  refine congrArg (V c main_v3) ?_
  blk_ext [idx1_0 t]

/-- A weight block whose block column is `4 (g + 1)` past the tile's, read at a column. -/
theorem blk1_w (c : Dev nD) (t : Fin cfg1.N) (g : Fin 7) (hg : t.val % 8 ≤ g.val + 1) (k : Fin 128) (x : Fin 2048) :
    wblk1 V c t g (ix2 k x)
      = arrW V c (ix2 k (⟨(g.val + 1) * 8192 + (t.val / 8 * 2048 + x.val), by have := col_lt t x; have := g.isLt; omega⟩ : Fin 65536)) := by
  match g, hg with
  | ⟨0, _⟩, hg => show iblk1 V c 1 t (ix2 k x) = _; blk_simp [iblk1]; refine congrArg (V c main_arg7) ?_; blk_ext [idx1_1 t hg]; exact wcol 0 _ _
  | ⟨1, _⟩, hg => show iblk1 V c 2 t (ix2 k x) = _; blk_simp [iblk1]; refine congrArg (V c main_arg7) ?_; blk_ext [idx1_2 t hg]; exact wcol 1 _ _
  | ⟨2, _⟩, hg => show iblk1 V c 3 t (ix2 k x) = _; blk_simp [iblk1]; refine congrArg (V c main_arg7) ?_; blk_ext [idx1_3 t hg]; exact wcol 2 _ _
  | ⟨3, _⟩, hg => show iblk1 V c 4 t (ix2 k x) = _; blk_simp [iblk1]; refine congrArg (V c main_arg7) ?_; blk_ext [idx1_4 t hg]; exact wcol 3 _ _
  | ⟨4, _⟩, hg => show iblk1 V c 5 t (ix2 k x) = _; blk_simp [iblk1]; refine congrArg (V c main_arg7) ?_; blk_ext [idx1_5 t hg]; exact wcol 4 _ _
  | ⟨5, _⟩, hg => show iblk1 V c 6 t (ix2 k x) = _; blk_simp [iblk1]; refine congrArg (V c main_arg7) ?_; blk_ext [idx1_6 t hg]; exact wcol 5 _ _
  | ⟨6, _⟩, hg => show iblk1 V c 7 t (ix2 k x) = _; blk_simp [iblk1]; refine congrArg (V c main_arg7) ?_; blk_ext [idx1_7 t hg]; exact wcol 6 _ _

/-- The bias block, read at a row and a column. -/
theorem blk1_8 (c : Dev nD) (t : Fin cfg1.N) (q : Fin 8) (x : Fin 2048) :
    iblk1 V c 8 t (ix2 q x) = arrB V c (ix2 q (⟨t.val / 8 * 2048 + x.val, col_lt t x⟩ : Fin 8192)) := by
  blk_simp [iblk1]
  refine congrArg (V c main_v4) ?_
  blk_ext [idx1_8 t]

/-! # The result's elements -/

/-- The logit of row `r` at column `n`, from the arrays the second call is given. -/
def klogit (c : Dev nD) (r : Fin 512) (n : Nat) (hn : n < 65536) : EReal :=
  (∑ k : Fin 128, arrH V c (ix2 r k) * arrW V c (ix2 k (⟨n, hn⟩ : Fin 65536)))
    + arrB V c (ix2 (⟨n / 8192, by omega⟩ : Fin 8) (⟨n % 8192, by omega⟩ : Fin 8192))

/-- The sum over groups 1 to 7 of the exponentials of the logits at parent `p`. -/
def kgroups (c : Dev nD) (r : Fin 512) (p : Nat) (hp : p < 8192) : EReal :=
  ∑ g : Fin 7, Ideal.exp (klogit V c r ((g.val + 1) * 8192 + p) (by omega))

/-- The result at row `r`, column `n`: in group 0 the reciprocal of the groups' sum plus one, in a later group the
    exponential of the logit plus that reciprocal's logarithm. -/
def kout (c : Dev nD) (r : Fin 512) (n : Nat) (hn : n < 65536) : EReal :=
  if n < 8192 then Ideal.div 1 (kgroups V c r (n % 8192) (by omega) + 1)
  else Ideal.exp (klogit V c r n hn + Ideal.log (Ideal.div 1 (kgroups V c r (n % 8192) (by omega) + 1)))

/-- The logit of a block is the logit of its column in the whole array. -/
theorem blogit_eq (c : Dev nD) (t : Fin cfg1.N) (g : Fin 7) (hg : t.val % 8 ≤ g.val + 1) (r : Fin 512) (x : Fin 2048) :
    blogit (iblk1 V c 0 t) (wblk1 V c t g) (brow g (iblk1 V c 8 t)) r x
      = klogit V c r ((g.val + 1) * 8192 + (t.val / 8 * 2048 + x.val)) (by have := col_lt t x; have := g.isLt; omega) := by
  have hx := col_lt t x
  unfold blogit klogit
  refine congrArg₂ (fun p q : EReal => p + q) (Finset.sum_congr rfl fun k _ => ?_) ?_
  · rw [blk1_0, blk1_w V c t g hg]
  · rw [brow_apply, blk1_8]
    refine congrArg (arrB V c) (congrArg₂ ix2 (Fin.ext ?_) (Fin.ext ?_))
    · show g.val + 1 = ((g.val + 1) * 8192 + (t.val / 8 * 2048 + x.val)) / 8192
      omega
    · show t.val / 8 * 2048 + x.val = ((g.val + 1) * 8192 + (t.val / 8 * 2048 + x.val)) % 8192
      omega

/-- A tile's sum, at its first point. -/
theorem bsum_eq_kgroups (c : Dev nD) (t : Fin cfg1.N) (ht : t.val % 8 = 0) (r : Fin 512) (x : Fin 2048) :
    bsum (iblk1 V c 0 t) (wblk1 V c t) (iblk1 V c 8 t) r x = kgroups V c r (t.val / 8 * 2048 + x.val) (col_lt t x) :=
  Finset.sum_congr rfl fun g _ => congrArg Ideal.exp (blogit_eq V c t g (by omega) r x)

theorem kgroups_congr (c : Dev nD) (r : Fin 512) {p q : Nat} (hp : p < 8192) (hq : q < 8192) (e : p = q) :
    kgroups V c r p hp = kgroups V c r q hq := by subst e; rfl

theorem klogit_congr (c : Dev nD) (r : Fin 512) {p q : Nat} (hp : p < 65536) (hq : q < 65536) (e : p = q) :
    klogit V c r p hp = klogit V c r q hq := by subst e; rfl

/-- A group's row of the result at a tile's column. -/
theorem out_lt (t : Fin cfg1.N) (x : Fin 2048) : t.val % 8 * 8192 + (t.val / 8 * 2048 + x.val) < 65536 := by
  have := col_lt t x
  omega

/-- What the body leaves in the output block at point `t` is the result's elements there. -/
theorem outAt_apply (c : Dev nD) (t : Fin cfg1.N) (r : Fin 512) (x : Fin 2048) :
    outAt V c t (ix2 r x) = kout V c r (t.val % 8 * 8192 + (t.val / 8 * 2048 + x.val)) (out_lt t x) := by
  have hx := col_lt t x
  have hm : (t.val % 8 * 8192 + (t.val / 8 * 2048 + x.val)) % 8192 = t.val / 8 * 2048 + x.val := by omega
  unfold outAt kout
  by_cases h0 : t.val % 8 = 0
  · rw [if_pos h0, if_pos (by omega), sumR_apply, bsum_eq_kgroups V c t h0]
    exact congrArg (fun q => Ideal.div 1 (q + 1)) (kgroups_congr V c r _ _ hm.symm)
  · rw [if_neg h0, if_neg (by omega), emit_apply, blogit_eq V c t ⟨t.val % 8 - 1, by omega⟩ (by show t.val % 8 ≤ t.val % 8 - 1 + 1; omega)]
    have e1 : lrAt V c (tile0 t) (ix2 r x)
        = Ideal.log (Ideal.div 1 (kgroups V c r ((t.val % 8 * 8192 + (t.val / 8 * 2048 + x.val)) % 8192) (by omega) + 1)) := by
      unfold lrAt
      rw [sumL_apply, bsum_eq_kgroups V c (tile0 t) (by show t.val / 8 * 8 % 8 = 0; omega)]
      refine congrArg (fun q => Ideal.log (Ideal.div 1 (q + 1))) (kgroups_congr V c r _ _ ?_)
      show t.val / 8 * 8 / 8 * 2048 + x.val = _
      omega
    rw [e1]
    refine congrArg (fun q => Ideal.exp (q + _)) (klogit_congr V c r _ _ ?_)
    show (t.val % 8 - 1 + 1) * 8192 + _ = _
    rw [Nat.sub_add_cancel (by omega)]

/-- The whole result array. -/
def koutArr (c : Dev nD) : Vec Ideal S512x65536 .f32 := fun i => kout V c (i 0) (i 1).val (i 1).isLt

theorem kout_congr (c : Dev nD) {r s : Fin 512} {p q : Nat} (hp : p < 65536) (hq : q < 65536) (e : r = s) (e' : p = q) :
    kout V c r p hp = kout V c s q hq := by subst e e'; rfl

/-- After the second call the output array holds the result. -/
theorem final1 (c : Dev nD) : (dat1 V c).arrAt 9 cfg1.N = koutArr V c := by
  refine (dat1 V c).arrAt_eq_of_covers 9 _ (by decide +kernel) fun t hf y => ?_
  blk_simp
  rw [after1_9]
  refine (congrArg (outAt V c t) (ValueIdx.eq_ix2 (n0 := 512) (n1 := 2048) y)).trans ((outAt_apply V c t (y 0) (y 1)).trans ?_)
  unfold koutArr
  refine kout_congr V c _ _ (Fin.ext ?_) ?_
  · blk_simp [idx1_9 t]
  · blk_simp [idx1_9 t]
    omega

/-! # The hidden layer's elements -/

theorem idx0 : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] := (by decide +kernel : ∀ t : Fin grid0.N, _)

/-- The first call's blocks are its whole arrays. -/
theorem blk0_0 (c : Dev nD) (t : Fin cfg0.N) : (iblk0 V c 0 t : Vec Ideal S512x128 .f32) = V c main_arg0 := by
  funext y; blk_simp [iblk0]; refine congrArg (V c main_arg0) ?_; blk_ext [(idx0 t).1]
theorem blk0_1 (c : Dev nD) (t : Fin cfg0.N) : (iblk0 V c 1 t : Vec Ideal S128x128 .f32) = V c main_arg3 := by
  funext y; blk_simp [iblk0]; refine congrArg (V c main_arg3) ?_; blk_ext [(idx0 t).2.1]
theorem blk0_2 (c : Dev nD) (t : Fin cfg0.N) : (iblk0 V c 2 t : Vec Ideal S1x128 .f32) = V c main_v0 := by
  funext y; blk_simp [iblk0]; refine congrArg (V c main_v0) ?_; blk_ext [(idx0 t).2.2.1]
theorem blk0_3 (c : Dev nD) (t : Fin cfg0.N) : (iblk0 V c 3 t : Vec Ideal S1x128 .f32) = V c main_v1 := by
  funext y; blk_simp [iblk0]; refine congrArg (V c main_v1) ?_; blk_ext [(idx0 t).2.2.2.1]
theorem blk0_4 (c : Dev nD) (t : Fin cfg0.N) : (iblk0 V c 4 t : Vec Ideal S1x128 .f32) = V c main_v2 := by
  funext y; blk_simp [iblk0]; refine congrArg (V c main_v2) ?_; blk_ext [(idx0 t).2.2.2.2.1]

/-- After the first call its output array holds the payload of the whole arrays. -/
theorem final0 (c : Dev nD) : (dat0 V c).arrAt 5 cfg0.N
    = (k0_pay1 (F := Ideal) (V c main_arg0) (V c main_arg3) (V c main_v0) (V c main_v1) (V c main_v2) : Vec Ideal S512x128 .f32) := by
  refine (dat0 V c).arrAt_eq_of_covers 5 _ (by decide +kernel) fun t hf y => ?_
  blk_simp
  rw [after0_5, blk0_0, blk0_1, blk0_2, blk0_3, blk0_4]
  refine congrArg _ ?_
  blk_ext [(idx0 t).2.2.2.2.2]

end Cert.KernelIdeal.Hand

end
-- ==== Proof.KernelIdeal.Result.lean ====
/- The kernel's result as a function of the program's arguments, at the ideal values. -/
module

public import proofs.«01_k».proof.Proof.KernelIdeal.Value
public import proofs.«01_k».proof.Proof.KernelIdeal.Run
public import Idealize.ShloMosaic.Lib.StableHlo.RunRead

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

/-! # The result as a function of the arguments -/

/-- The hidden layer at row `r`, feature `d`, from the arguments. -/
def hid (z : Vec Ideal S512x128 .f32) (w : Vec Ideal S128x128 .f32) (b ga be : Vec Ideal S128 .f32) (r : Fin 512) (d : Fin 128) : EReal :=
  hval (fun r => (∑ k : Fin 128, z (ix2 r k) * w (ix2 k d)) + b (ix1 d)) r (ga (ix1 d)) (be (ix1 d))

/-- The logit at row `r`, column `n`, from the hidden layer `h` and the second layer's weights and biases. -/
def lgt (h : Fin 512 → Fin 128 → EReal) (w : Vec Ideal S128x65536 .f32) (b : Vec Ideal S65536 .f32) (r : Fin 512) (n : Fin 65536) : EReal :=
  (∑ k : Fin 128, h r k * w (ix2 k n)) + b (ix1 n)

/-- The sum over groups 1 to 7 of the exponentials of the logits `L` of row `r` at parent `p`. -/
def groups (L : Fin 512 → Fin 65536 → EReal) (r : Fin 512) (p : Nat) (hp : p < 8192) : EReal :=
  ∑ g : Fin 7, Ideal.exp (L r (⟨(g.val + 1) * 8192 + p, by omega⟩ : Fin 65536))

/-- The result from the logits. -/
def outOf (L : Fin 512 → Fin 65536 → EReal) (r : Fin 512) (n : Fin 65536) : EReal :=
  if n.val < 8192 then Ideal.div 1 (groups L r (n.val % 8192) (by omega) + 1)
  else Ideal.exp (L r n + Ideal.log (Ideal.div 1 (groups L r (n.val % 8192) (by omega) + 1)))

variable (m : (ℓ : Loc nD τ sig) → Buf (Elt Ideal) ℓ) (ρ : Dev nD → PrngReg)

/-- The host's reshapes of the hidden layer's vectors, as rows. -/
theorem W1_v0 (c : Dev nD) : (W1 m ρ c (Proc.devRef .tc main_v0) : Vec Ideal S1x128 .f32)
    = shapeCast S1x128 (m ((c : Thread nD τ).loc main_arg4) : Vec Ideal S128 .f32) shapeCasts_S128_S1x128 := by
  show StableHlo.after hostOps0 (W0 m ρ c) (Proc.devRef .tc main_v0) = _
  after_reads_simp
  rfl
theorem W1_v1 (c : Dev nD) : (W1 m ρ c (Proc.devRef .tc main_v1) : Vec Ideal S1x128 .f32)
    = shapeCast S1x128 (m ((c : Thread nD τ).loc main_arg5) : Vec Ideal S128 .f32) shapeCasts_S128_S1x128 := by
  show StableHlo.after hostOps0 (W0 m ρ c) (Proc.devRef .tc main_v1) = _
  after_reads_simp
  rfl
theorem W1_v2 (c : Dev nD) : (W1 m ρ c (Proc.devRef .tc main_v2) : Vec Ideal S1x128 .f32)
    = shapeCast S1x128 (m ((c : Thread nD τ).loc main_arg6) : Vec Ideal S128 .f32) shapeCasts_S128_S1x128 := by
  show StableHlo.after hostOps0 (W0 m ρ c) (Proc.devRef .tc main_v2) = _
  after_reads_simp
  rfl
/-- The host's reshape of the second layer's biases, one row per group. -/
theorem W3_v4 (c : Dev nD) : (W3 m ρ c (Proc.devRef .tc main_v4) : Vec Ideal S8x8192 .f32)
    = shapeCast S8x8192 (W2 m ρ c (Proc.devRef .tc main_arg8) : Vec Ideal S65536 .f32) shapeCasts_S65536_S8x8192 := by
  show StableHlo.after hostOps1 (W2 m ρ c) (Proc.devRef .tc main_v4) = _
  after_reads_simp
  rfl

/-- A vector reshaped to a row, at a column. -/
theorem asRow (v : Vec Ideal S128 .f32) (d : Fin 128) : shapeCast S1x128 v shapeCasts_S128_S1x128 (ix2 (0 : Fin 1) d) = v (ix1 d) := by
  refine (shapeCast_addUnit_apply _ v shapeCasts_S128_S1x128 (ix2 (0 : Fin 1) d)).trans (congrArg v (funext fun a => ?_))
  match a with
  | ⟨0, _⟩ => rfl

/-- The first kernel's payload on vectors reshaped to rows. -/
theorem hidden_asRow (z : Vec Ideal S512x128 .f32) (w : Vec Ideal S128x128 .f32) (b ga be : Vec Ideal S128 .f32) (r : Fin 512) (d : Fin 128) :
    k0_pay1 z w (shapeCast S1x128 b shapeCasts_S128_S1x128) (shapeCast S1x128 ga shapeCasts_S128_S1x128)
      (shapeCast S1x128 be shapeCasts_S128_S1x128) (ix2 r d) = hid z w b ga be r d := by
  rw [hidden_apply]
  have ep : (fun r => hpre z w (shapeCast S1x128 b shapeCasts_S128_S1x128) r d)
      = fun r => (∑ k : Fin 128, z (ix2 r k) * w (ix2 k d)) + b (ix1 d) :=
    funext fun r => congrArg (fun q : EReal => _ + q) (asRow b d)
  exact congr (congr (congrFun (congrArg hval ep) r) (asRow ga d)) (asRow be d)

/-- The second call's weights are the argument's. -/
theorem arrW_eq (c : Dev nD) : arrW (U3 m ρ) c = (m ((c : Thread nD τ).loc main_arg7) : Vec Ideal S128x65536 .f32) :=
  W3_args m ρ c main_arg7 (by decide)

/-- Its biases are the argument's, row after row. -/
theorem arrB_apply (c : Dev nD) (n : Fin 65536) :
    arrB (U3 m ρ) c (ix2 (⟨n.val / 8192, by omega⟩ : Fin 8) (⟨n.val % 8192, by omega⟩ : Fin 8192))
      = (m ((c : Thread nD τ).loc main_arg8) : Vec Ideal S65536 .f32) (ix1 n) := by
  have e : (W2 m ρ c (Proc.devRef .tc main_arg8) : Vec Ideal S65536 .f32) = (m ((c : Thread nD τ).loc main_arg8) : Vec Ideal S65536 .f32) :=
    (W2_of m ρ c main_arg8 (argsIn0 main_arg8 (by decide))).trans (W1_of m ρ c main_arg8 (ops0_args main_arg8 (by decide)))
  unfold arrB
  show (W3 m ρ c (Proc.devRef .tc main_v4) : Vec Ideal S8x8192 .f32) _ = _
  rw [W3_v4, e]
  refine shapeCast_apply _ shapeCasts_S65536_S8x8192 _ (ix1 n) ?_
  refine (Shape.rowMajor_val_one (ix1 n)).trans (Eq.trans ?_ (Shape.rowMajor_val_two (ix2 (⟨n.val / 8192, by omega⟩ : Fin 8) (⟨n.val % 8192, by omega⟩ : Fin 8192))).symm)
  show n.val = n.val / 8192 * 8192 + n.val % 8192
  omega

/-- Its hidden layer is the first call's, of the arguments. -/
theorem arrH_apply (c : Dev nD) (r : Fin 512) (d : Fin 128) :
    arrH (U3 m ρ) c (ix2 r d) = hid (m ((c : Thread nD τ).loc main_arg0)) (m ((c : Thread nD τ).loc main_arg3))
      (m ((c : Thread nD τ).loc main_arg4)) (m ((c : Thread nD τ).loc main_arg5)) (m ((c : Thread nD τ).loc main_arg6)) r d := by
  have e : arrH (U3 m ρ) c = (k0_pay1 (F := Ideal) (m ((c : Thread nD τ).loc main_arg0)) (m ((c : Thread nD τ).loc main_arg3))
      (W1 m ρ c (Proc.devRef .tc main_v0)) (W1 m ρ c (Proc.devRef .tc main_v1)) (W1 m ρ c (Proc.devRef .tc main_v2)) : Vec Ideal S512x128 .f32) := by
    unfold arrH
    refine (W3_of m ρ c main_v3 (by decide)).trans ((W2_arr m ρ c 5).trans ((final0 (U1 m ρ) c).trans ?_))
    have e0 : U1 m ρ c main_arg0 = m ((c : Thread nD τ).loc main_arg0) := W1_of m ρ c main_arg0 (ops0_args main_arg0 (by decide))
    have e3 : U1 m ρ c main_arg3 = m ((c : Thread nD τ).loc main_arg3) := W1_of m ρ c main_arg3 (ops0_args main_arg3 (by decide))
    rw [e0, e3]
  rw [e, W1_v0, W1_v1, W1_v2]
  exact hidden_asRow _ _ _ _ _ r d

/-- The second call's logits are those of the arguments. -/
theorem klogit_eq (c : Dev nD) (r : Fin 512) (n : Nat) (hn : n < 65536) :
    klogit (U3 m ρ) c r n hn = lgt (hid (m ((c : Thread nD τ).loc main_arg0)) (m ((c : Thread nD τ).loc main_arg3))
      (m ((c : Thread nD τ).loc main_arg4)) (m ((c : Thread nD τ).loc main_arg5)) (m ((c : Thread nD τ).loc main_arg6)))
      (m ((c : Thread nD τ).loc main_arg7)) (m ((c : Thread nD τ).loc main_arg8)) r ⟨n, hn⟩ := by
  unfold klogit lgt
  refine congrArg₂ (fun p q : EReal => p + q) (Finset.sum_congr rfl fun k _ => ?_) (arrB_apply m ρ c ⟨n, hn⟩)
  rw [arrH_apply, arrW_eq]

/-- The kernel's result, element by element, is that of the arguments' logits. -/
theorem result_apply (c : Dev nD) (r : Fin 512) (n : Fin 65536) :
    (W4 m ρ c (Proc.devRef .tc main_v5) : Vec Ideal S512x65536 .f32) (ix2 r n)
      = outOf (lgt (hid (m ((c : Thread nD τ).loc main_arg0)) (m ((c : Thread nD τ).loc main_arg3))
          (m ((c : Thread nD τ).loc main_arg4)) (m ((c : Thread nD τ).loc main_arg5)) (m ((c : Thread nD τ).loc main_arg6)))
          (m ((c : Thread nD τ).loc main_arg7)) (m ((c : Thread nD τ).loc main_arg8))) r n := by
  have e : (W4 m ρ c (Proc.devRef .tc main_v5) : Vec Ideal S512x65536 .f32) = koutArr (U3 m ρ) c :=
    (W4_arr m ρ c 9).trans (final1 (U3 m ρ) c)
  rw [e]
  show kout (U3 m ρ) c r n.val n.isLt = _
  unfold kout outOf kgroups groups
  simp only [klogit_eq]

end Cert.KernelIdeal.Hand

end
-- ==== Proof.KernelIdeal.Reals.lean ====
/- Facts of the extended reals the two programs' equality rests on: dividing by a square root, and adding a logarithm in the exponent. -/
module

public import proofs.«01_k».proof.Proof.KernelIdeal.Result

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

/-! # Facts of the extended reals -/

/-- A square is not negative. -/
theorem sq_nonneg' (x : EReal) : 0 ≤ x * x := by
  induction x with
  | bot => rw [EReal.bot_mul_bot]; exact le_top
  | top => rw [EReal.top_mul_top]; exact le_top
  | coe r => rw [← EReal.coe_mul]; exact EReal.coe_nonneg.2 (mul_self_nonneg r)

/-- The word 512.0 is 512. -/
theorem bits512 : Ideal.ofBits .f32 0x44000000#32 = ((512 : ℝ) : EReal) := by
  simp [Ideal.ofBits, Ideal.ieee, -EReal.coe_mul]
  norm_num

/-- The word of the small constant is a positive real. -/
theorem bitsEps : ∃ e : ℝ, 0 < e ∧ Ideal.ofBits .f32 0x3A83126F#32 = (e : EReal) := by
  refine ⟨_, ?_, by simp [Ideal.ofBits, Ideal.ieee, -EReal.coe_mul]; rfl⟩
  norm_num

/-- Dividing by 512 keeps the sign. -/
theorem div512_nonneg {x : EReal} (h : 0 ≤ x) : 0 ≤ Ideal.div x (Ideal.ofBits .f32 0x44000000#32) := by
  rw [bits512, Ideal.div_coe (by norm_num)]
  exact mul_nonneg h (EReal.coe_nonneg.2 (by norm_num))

/-- A variance is not negative. -/
theorem cvar_nonneg (p : Fin 512 → EReal) : 0 ≤ cvar p :=
  div512_nonneg (Finset.sum_nonneg fun r _ => sq_nonneg' _)

/-- A product by a reciprocal square root is the quotient by the square root, past zero. -/
theorem mul_rsqrt (a q : EReal) (h : 0 < q) : a * Ideal.rsqrt q = Ideal.div a (Ideal.sqrt q) := by
  induction q with
  | bot => exact absurd h (by simp)
  | top =>
    show a * 0 = Ideal.div a ⊤
    unfold Ideal.div
    rw [if_neg EReal.top_ne_zero, EReal.inv_top]
  | coe r =>
    have hr : 0 < r := EReal.coe_pos.1 h
    have e1 : Ideal.rsqrt (r : EReal) = ((Real.sqrt r)⁻¹ : ℝ) := by
      show (if r < 0 then ⊥ else if r = 0 then ⊤ else (((Real.sqrt r)⁻¹ : ℝ) : EReal)) = _
      rw [if_neg (not_lt.2 hr.le), if_neg hr.ne']
    have e2 : Ideal.sqrt (r : EReal) = ((Real.sqrt r : ℝ) : EReal) := by
      show (if r < 0 then ⊥ else ((Real.sqrt r : ℝ) : EReal)) = _
      rw [if_neg (not_lt.2 hr.le)]
    rw [e1, e2, Ideal.div_coe (Real.sqrt_pos.2 hr).ne', one_div]

/-- The normalised hidden value with a division by the square root in place of the product by its reciprocal. -/
theorem hval_eq (p : Fin 512 → EReal) (r : Fin 512) (ga be : EReal) :
    hval p r ga be = max (Ideal.div (p r - cmean p) (Ideal.sqrt (cvar p + Ideal.ofBits .f32 0x3A83126F#32)) * ga + be) 0 := by
  unfold hval
  obtain ⟨e, he, eq⟩ := bitsEps
  rw [mul_rsqrt _ _ (by rw [eq]; exact lt_of_lt_of_le (EReal.coe_pos.2 he) (le_add_of_nonneg_left (cvar_nonneg p)))]

/-- An exponential is not negative. -/
theorem exp_nonneg (x : EReal) : 0 ≤ Ideal.exp x := by
  induction x with
  | bot => exact le_refl (0 : EReal)
  | top => exact le_top
  | coe r => exact EReal.coe_nonneg.2 (Real.exp_pos r).le

/-- Adding in the exponent the logarithm of one over `t` divides by `t`, for `t` at least one. -/
theorem exp_add_log (x t : EReal) (h : 1 ≤ t) : Ideal.exp (x + Ideal.log (Ideal.div 1 t)) = Ideal.div (Ideal.exp x) t := by
  induction t with
  | bot => exact absurd h (not_le.2 (EReal.bot_lt_coe 1))
  | top =>
    have e1 : Ideal.div 1 ⊤ = ((0 : ℝ) : EReal) := by
      unfold Ideal.div
      rw [if_neg EReal.top_ne_zero, EReal.inv_top, mul_zero]
      rfl
    have e2 : Ideal.log ((0 : ℝ) : EReal) = ⊥ := by
      show (if (0 : ℝ) ≤ 0 then (⊥ : EReal) else _) = ⊥
      rw [if_pos le_rfl]
    rw [e1, e2, EReal.add_bot]
    unfold Ideal.div
    rw [if_neg EReal.top_ne_zero, EReal.inv_top, mul_zero]
    rfl
  | coe t =>
    have ht : (1 : ℝ) ≤ t := EReal.coe_le_coe_iff.1 h
    have hp : 0 < t := lt_of_lt_of_le one_pos ht
    have e1 : Ideal.log (Ideal.div 1 (t : EReal)) = ((-Real.log t : ℝ) : EReal) := by
      rw [Ideal.div_coe hp.ne', one_mul]
      show (if 1 / t ≤ 0 then (⊥ : EReal) else ((Real.log (1 / t) : ℝ) : EReal)) = _
      rw [if_neg (not_le.2 (one_div_pos.2 hp)), one_div, Real.log_inv]
    rw [e1, Ideal.div_coe hp.ne']
    induction x with
    | bot =>
      rw [EReal.bot_add]
      show (0 : EReal) = 0 * _
      rw [zero_mul]
    | top =>
      rw [EReal.top_add_coe]
      show (⊤ : EReal) = ⊤ * _
      rw [EReal.top_mul_coe_of_pos (one_div_pos.2 hp)]
    | coe x =>
      rw [← EReal.coe_add]
      show ((Real.exp (x + -Real.log t) : ℝ) : EReal) = ((Real.exp x : ℝ) : EReal) * _
      rw [Real.exp_add, Real.exp_neg, Real.exp_log hp, one_div, EReal.coe_mul]

/-- The sum of a parent's groups is not negative. -/
theorem groups_nonneg (L : Fin 512 → Fin 65536 → EReal) (r : Fin 512) (p : Nat) (hp : p < 8192) : 0 ≤ groups L r p hp :=
  Finset.sum_nonneg fun g _ => exp_nonneg _

/-- The result in both cases as one quotient: the column's exponential (one in group 0) over one plus the groups' sum. -/
theorem outOf_eq (L : Fin 512 → Fin 65536 → EReal) (r : Fin 512) (n : Fin 65536) :
    outOf L r n = Ideal.div (if n.val < 8192 then 1 else Ideal.exp (L r n)) (1 + groups L r (n.val % 8192) (by omega)) := by
  unfold outOf
  rw [add_comm (groups L r _ _)]
  split
  · rfl
  · exact exp_add_log _ _ (le_add_of_nonneg_right (groups_nonneg L r _ _))

end Cert.KernelIdeal.Hand

end
-- ==== Proof.ReferenceIdeal.Hidden.lean ====
/- The reference's hidden layer and logits at the ideal values, and the reference's result as the kernel's function of the arguments. -/
module

public import proofs.«01_k».proof.Proof.ReferenceIdeal.Clusters
public import proofs.«01_k».proof.Proof.KernelIdeal.Reals

@[expose] public section

set_option maxRecDepth 16384

noncomputable section

namespace Cert.ReferenceIdeal.Hand

open Cert.ReferenceIdeal.Gen Cert.ReferenceIdeal.Read
open Cert.KernelIdeal.Hand (hid hval cmean cvar lgt groups outOf)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open ValueIdx

variable (x0 : Vec Ideal S512x128 .f32) (x1 : Vec Ideal S8192 .i32) (x2 : Vec Ideal S65536 .i32) (x3 : Vec Ideal S128x128 .f32)
  (x4 x5 x6 : Vec Ideal S128 .f32) (x7 : Vec Ideal S128x65536 .f32) (x8 : Vec Ideal S65536 .f32)

/-! # The hidden layer -/

/-- The hidden layer before normalisation, at row `r` and feature `d`. -/
def rpre (r : Fin 512) (d : Fin 128) : EReal := (∑ k : Fin 128, x0 (ix2 r k) * x3 (ix2 k d)) + x4 (ix1 d)

/-- It is what the reference computes there. -/
theorem pre_apply (r : Fin 512) (d : Fin 128) : val_main_v3 (F := Ideal) x0 x3 x4 (ix2 r d) = rpre x0 x3 x4 r d := by
  rw [val_main_v3_apply, val_main_v0_apply, val_main_v2_apply, val_main_v1_apply]
  refine congrArg₂ (fun p q : EReal => p + q) (Finset.sum_congr rfl fun k _ => congrArg₂ (fun p q : EReal => p * q)
    (congrArg x0 (funext fun a => Fin.ext ?_)) (congrArg x3 (funext fun a => Fin.ext ?_))) (congrArg x4 (funext fun a => Fin.ext ?_))
  · match a with
    | ⟨0, _⟩ => rfl
    | ⟨1, _⟩ => rfl
  · match a with
    | ⟨0, _⟩ => rfl
    | ⟨1, _⟩ => rfl
  · match a with
    | ⟨0, _⟩ => rfl

/-- A sum over the rows from zero, over 512, is the column's mean. -/
theorem mean_of (p : Fin 512 → EReal) (q : EReal) (hq : q = Ideal.ofBits .f32 0x00000000#32 + ∑ k : Fin 512, p k) :
    Ideal.div q (Ideal.ofBits .f32 0x44000000#32) = cmean p := by
  rw [hq, Ideal.ofBits_zero_f32, zero_add]
  rfl

/-- The reference's mean of a feature. -/
theorem mean_apply (d : Fin 128) : val_main_v6 (F := Ideal) x0 x3 x4 (ix1 d) = cmean fun r => rpre x0 x3 x4 r d := by
  rw [val_main_v6_apply, val_main_v5_apply, val_main_cst_0_apply]
  refine mean_of _ _ ((val_main_v4_apply x0 x3 x4 (ix1 d)).trans (congrArg (fun q : EReal => _ + q) (Finset.sum_congr rfl fun k _ => ?_)))
  rw [← pre_apply]
  exact congrArg _ (funext fun a => Fin.ext (by match a with | ⟨0, _⟩ => rfl | ⟨1, _⟩ => rfl))

/-- The variance's own mean of a feature. -/
theorem vmean_apply (i : S1x128.Idx) (d : Fin 128) (hi : (i 1).val = d.val) :
    val_main_call0_v3 (F := Ideal) x0 x3 x4 i = cmean fun r => rpre x0 x3 x4 r d := by
  rw [val_main_call0_v3_apply, val_main_call0_v2_apply, val_main_call0_cst_0_apply, val_main_call0_v1_apply]
  refine mean_of _ _ ((val_main_call0_v0_apply x0 x3 x4 _).trans (congrArg (fun q : EReal => _ + q) (Finset.sum_congr rfl fun k _ => ?_)))
  rw [← pre_apply]
  exact congrArg _ (funext fun a => Fin.ext (by match a with | ⟨0, _⟩ => rfl | ⟨1, _⟩ => exact hi))

/-- The variance's divisor is 512. -/
theorem divisor (i : S_.Idx) : val_main_call0_v8 (F := Ideal) i = Ideal.ofBits .f32 0x44000000#32 := by
  rw [val_main_call0_v8_apply, val_main_call0_v7_apply, val_main_call0_cst_1_apply, val_main_c_apply]
  have e : FloatOps.sitofp (F := Ideal) .f32 (0#32) = (0 : EReal) := by
    show (((0#32 : BitVec 32).toInt : ℝ) : EReal) = 0
    simp
  exact (congrArg (fun q : EReal => Ideal.ofBits .f32 0x44000000#32 - q) e).trans (sub_zero _)

/-- It is positive, so the reference keeps the quotient. -/
theorem divisor_pos (i : S_.Idx) : val_main_call0_v12 (F := Ideal) i = 1#1 := by
  rw [val_main_call0_v12_apply, divisor, val_main_call0_cst_3_apply]
  show Ideal.cmp .ogt (Ideal.ofBits .f32 0x44000000#32) (Ideal.ofBits .f32 0x00000000#32) = 1#1
  rw [Cert.KernelIdeal.Hand.bits512, Ideal.ofBits_zero_f32]
  unfold Ideal.cmp
  rw [decide_eq_true (EReal.coe_pos.2 (by norm_num : (0 : ℝ) < 512))]
  rfl

/-- The reference's variance of a feature. -/
theorem var_apply (d : Fin 128) : val_main_v7 (F := Ideal) x0 x3 x4 (ix1 d) = cvar fun r => rpre x0 x3 x4 r d := by
  unfold val_main_v7
  have hs : broadcastInDim S128 ![] bcast_S_S128 (val_main_call0_v12 (F := Ideal)) (ix1 d) = 1#1 :=
    (broadcastInDim_apply _ bcast_S_S128 _ (ix1 d) (fun a => a.elim0) (fun a => a.elim0)).trans (divisor_pos _)
  refine (WordCmp.select_of_eq_one hs _ _).trans ?_
  rw [val_main_call0_v11_apply, val_main_call0_v10_apply, divisor]
  refine mean_of _ _ ((val_main_call0_v9_apply x0 x3 x4 (ix1 d)).trans (congrArg (fun q : EReal => _ + q) (Finset.sum_congr rfl fun k _ => ?_)))
  have e : val_main_call0_v5 (F := Ideal) x0 x3 x4 (idx_main_call0_v9 (ix1 d) k) = rpre x0 x3 x4 k d - cmean fun r => rpre x0 x3 x4 r d := by
    rw [val_main_call0_v5_apply, val_main_call0_v4_apply, vmean_apply x0 x3 x4 _ d rfl, ← pre_apply]
    exact congrArg (fun q : EReal => q - _) (congrArg (val_main_v3 (F := Ideal) x0 x3 x4) (funext fun a => Fin.ext (by match a with | ⟨0, _⟩ => rfl | ⟨1, _⟩ => rfl)))
  rw [val_main_call0_v6_apply, e]
  rfl

/-- The reference's hidden layer is the kernel's. -/
theorem hidden_apply (r : Fin 512) (d : Fin 128) :
    val_main_v23 (F := Ideal) x0 x3 x4 x5 x6 (ix2 r d) = hid x0 x3 x4 x5 x6 r d := by
  have f1 : ∀ i : S128.Idx, (i 0).val = d.val → i = ix1 d := fun i h => funext fun a => Fin.ext (by match a with | ⟨0, _⟩ => exact h)
  rw [val_main_v23_apply, val_main_v22_apply, val_main_v21_apply, val_main_v20_apply, val_main_v19_apply, val_main_v18_apply,
    val_main_v17_apply, val_main_v16_apply, val_main_v15_apply, val_main_v14_apply, val_main_v13_apply, val_main_v12_apply,
    val_main_v11_apply, val_main_cst_1_apply, val_main_v10_apply, val_main_v9_apply, val_main_v8_apply, val_main_call1_v0_apply,
    val_main_call1_cst_apply, f1 (idx_main_v20 _) rfl, f1 (idx_main_v17 _) rfl, f1 (idx_main_v14 _) rfl, f1 (idx_main_v8 _) rfl,
    mean_apply, var_apply, pre_apply]
  unfold hid
  rw [Cert.KernelIdeal.Hand.hval_eq]
  exact congrArg₂ (max : EReal → EReal → EReal) rfl Ideal.ofBits_zero_f32

/-! # The logits and the result -/

/-- The reference's logits are the kernel's. -/
theorem logit_apply (r : Fin 512) (n : Fin 65536) :
    val_main_v27 (F := Ideal) x0 x3 x4 x5 x6 x7 x8 (ix2 r n) = lgt (hid x0 x3 x4 x5 x6) x7 x8 r n := by
  rw [val_main_v27_apply, val_main_v24_apply, val_main_v26_apply, val_main_v25_apply]
  refine congrArg₂ (fun p q : EReal => p + q) (Finset.sum_congr rfl fun k _ => congrArg₂ (fun p q : EReal => p * q)
    (Eq.trans (congrArg _ (funext fun a => Fin.ext ?_)) (hidden_apply x0 x3 x4 x5 x6 r k)) (congrArg x7 (funext fun a => Fin.ext ?_)))
    (congrArg x8 (funext fun a => Fin.ext ?_))
  · match a with
    | ⟨0, _⟩ => rfl
    | ⟨1, _⟩ => rfl
  · match a with
    | ⟨0, _⟩ => rfl
    | ⟨1, _⟩ => rfl
  · match a with
    | ⟨0, _⟩ => rfl

/-- A cluster's sum is one plus its groups' sum. -/
theorem expoSum_eq (L : S512x65536.Idx → EReal) (M : Fin 512 → Fin 65536 → EReal) (hM : ∀ r n, L (ix2 r n) = M r n) (r : Fin 512) (p : Fin 8192) :
    expoSum L r p = 1 + groups M r p.val p.isLt := by
  unfold expoSum groups
  rw [Fin.sum_univ_succ]
  refine congrArg₂ (fun p q : EReal => p + q) (if_pos p.isLt) (Finset.sum_congr rfl fun g _ => ?_)
  unfold expo
  rw [if_neg (by show ¬ p.val + 8192 * (g.val + 1) < 8192; omega), hM]
  refine congrArg (fun n => Ideal.exp (M r n)) (Fin.ext ?_)
  show p.val + 8192 * (g.val + 1) = (g.val + 1) * 8192 + p.val
  omega

/-- The reference's result is the kernel's function of the logits. -/
theorem result_eq (h1 : ∀ n : S8192.Idx, x1 n = BitVec.ofNat 32 (n 0).val)
    (h2 : ∀ n : S65536.Idx, x2 n = BitVec.ofNat 32 ((n 0).val % 8192)) (r : Fin 512) (n : Fin 65536) :
    val_main_v43 (F := Ideal) x0 x1 x2 x3 x4 x5 x6 x7 x8 (ix2 r n) = outOf (lgt (hid x0 x3 x4 x5 x6) x7 x8) r n := by
  rw [result_apply x0 x1 x2 x3 x4 x5 x6 x7 x8 h1 h2, Cert.KernelIdeal.Hand.outOf_eq,
    expoSum_eq _ _ (logit_apply x0 x3 x4 x5 x6 x7 x8)]
  refine congrArg (fun q => Ideal.div q _) ?_
  unfold expo
  rw [logit_apply]

end Cert.ReferenceIdeal.Hand

end
-- ==== Proof.Pre.lean ====
/- What the precondition says of the two index arrays, word by word. -/
module

public import proofs.«01_k».proof.Pre_clusters
public import Idealize.ShloMosaic.Lib.ReduceAll
public import Idealize.ShloMosaic.Lib.Affine
public import Idealize.ShloMosaic.Lib.StableHlo.Predicate
public import Idealize.ShloMosaic.Lib.Pipeline.Value

@[expose] public section

noncomputable section

namespace Cert.Pre_clusters.Hand

open Idealize.ShloMosaic Cert.Pre_clusters

/-- The shapes the precondition's reductions and its broadcast take fit. -/
instance facts : Cert.Pre_clusters.Facts where
  reducesTo_S8192_S_d0 := by decide
  h_S_ := by decide
  bcast_S_S65536 := by decide
  reducesTo_S65536_S_d0 := by decide

variable {F : FTy → Type} [FloatOps F]

/-- The precondition's result has one index. -/
instance : Subsingleton S_.Idx := ⟨fun _ _ => funext fun a => a.elim0⟩

/-- The precondition in words: the heads are the first 8192 positions in order, and position `n` belongs to cluster
    `n mod 8192`. -/
theorem words (x0 : FVec F S512x128 .f32) (x1 : IVec S8192 32) (x2 : IVec S65536 32) (x3 : FVec F S128x128 .f32) (x4 x5 x6 : FVec F S128 .f32)
    (x7 : FVec F S128x65536 .f32) (x8 : FVec F S65536 .f32) (h : fn x0 x1 x2 x3 x4 x5 x6 x7 x8 = fun _ => 1#1) :
    (∀ n : S8192.Idx, x1 n = BitVec.ofNat 32 (n 0).val) ∧ ∀ n : S65536.Idx, x2 n = BitVec.ofNat 32 ((n 0).val % 8192) := by
  have e := congrFun h (fun a => a.elim0)
  unfold fn at e
  obtain ⟨e1, e2⟩ := IntOp.andi_eq_one.1 e
  refine ⟨fun n => StableHlo.Predicate.cmpi_eq_iff.1 (Host.reduce_andi_all _ _ _ _ _ e1 n), fun n => ?_⟩
  have hn : (n 0).val < 65536 := (n 0).isLt
  have e3 := StableHlo.Predicate.cmpi_eq_iff.1 (Host.reduce_andi_all _ _ _ _ _ e2 n)
  refine e3.trans (BitVec.eq_of_toNat_eq ?_)
  refine (IntOp.toNat_remsi _ (x := BitVec.ofNat 32 (n 0).val) (by rw [BitVec.toNat_ofNat]; omega) 8192 (by omega) (by omega)).trans ?_
  rw [BitVec.toNat_ofNat, BitVec.toNat_ofNat]
  omega

end Cert.Pre_clusters.Hand

end
-- ==== Proof.lean ====
/- The certificate: the frames of the compiled program, of its idealized reading and of the reference, and the equality
   of the kernel's and the reference's results over the extended reals. -/
module

public import proofs.«01_k».proof.Defs
public import proofs.«01_k».proof.Proof.Gen.ReferenceIdeal.Read
public import proofs.«01_k».proof.Proof.Kernel.Frame
public import proofs.«01_k».proof.Proof.ReferenceIdeal.Hidden
public import proofs.«01_k».proof.Proof.Pre

@[expose] public section

noncomputable section

namespace Cert.Proof

open Idealize.ShloMosaic Idealize.ShloMosaic.TcCoe Idealize.SL.Sem

/-- The reference terminates without a fault and leaves its arguments; it declares no semaphore. -/
theorem frame_r : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel terminates with its result array at the contents `W4` names, its arguments unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v5)
          = Cert.KernelIdeal.Hand.W4 m ρ c (Proc.devRef .tc Cert.KernelIdeal.main_v5)
        ∧ ∀ a ∈ Cert.KernelIdeal.Hand.argRefs, ¬ (Proc.devRef .tc a : DevRef Cert.KernelIdeal.τ Cert.KernelIdeal.sig).isScoped →
          r.2.mem ((c.tc : Thread Cert.KernelIdeal.nD Cert.KernelIdeal.τ).loc a) = m ((c.tc : Thread Cert.KernelIdeal.nD Cert.KernelIdeal.τ).loc a)) :=
  (θ_run Cert.KernelIdeal.defs _ _).mono (fun r h c =>
    ⟨h.1 c _ (Cert.KernelIdeal.Hand.mem_uc Cert.KernelIdeal.main_v5 (by decide)),
     fun a ha hs => (h.1 c _ (Cert.KernelIdeal.Hand.mem_uc a hs)).trans (Cert.KernelIdeal.Hand.W4_args m ρ c a ha)⟩)
    (Cert.KernelIdeal.Hand.run m ρ)

/-- Over the extended reals, on arguments whose index arrays are the fixed cluster arrays, the kernel's result is the
    reference's. -/
theorem algebraic : Cert.algebraic_KernelIdeal_ReferenceIdeal_pre_clusters := fun m ρ m' ρ' hpre hagree =>
  ⟨fun c => Cert.KernelIdeal.Hand.W4 m ρ c (Proc.devRef .tc Cert.KernelIdeal.main_v5),
   (θ_run Cert.KernelIdeal.defs _ _).mono (fun r h c =>
     ⟨(h c).1, (h c).2 _ (by decide) (by decide), (h c).2 _ (by decide) (by decide), (h c).2 _ (by decide) (by decide),
      (h c).2 _ (by decide) (by decide), (h c).2 _ (by decide) (by decide), (h c).2 _ (by decide) (by decide),
      (h c).2 _ (by decide) (by decide), (h c).2 _ (by decide) (by decide), (h c).2 _ (by decide) (by decide)⟩) (kernel_run m ρ),
   (θ_run Cert.ReferenceIdeal.defs _ _).mono (fun r h c => ⟨(h c).1.trans (by
     obtain ⟨a0, a1, a2, a3, a4, a5, a6, a7, a8⟩ := hagree c
     obtain ⟨h1, h2⟩ := Cert.Pre_clusters.Hand.words _ _ _ _ _ _ _ _ _ (hpre c)
     rw [Cert.ReferenceIdeal.Read.val_main_v43_eq, a0, a1, a2, a3, a4, a5, a6, a7, a8]
     funext i
     rw [ValueIdx.eq_ix2 (n0 := 512) (n1 := 65536) i]
     exact (Cert.ReferenceIdeal.Hand.result_eq _ _ _ _ _ _ _ _ _ h1 h2 (i 0) (i 1)).trans
       (Cert.KernelIdeal.Hand.result_apply m ρ c (i 0) (i 1)).symm), (h c).2⟩)
     (Cert.ReferenceIdeal.Value.run (F := Ideal) m' ρ')⟩

/-- The frames of the three programs; the idealization rewrote nothing; the kernel's result is the reference's. -/
theorem claim : Cert.Claim := ⟨Cert.Kernel.Gen.facts, Cert.KernelIdeal.Gen.facts, Cert.ReferenceIdeal.Gen.facts,
  Cert.Pre_clusters.Hand.facts,
  fun m ρ _ => Cert.Kernel.Hand.frame m ρ, fun m ρ _ => Cert.KernelIdeal.Hand.frame m ρ,
  fun m ρ _ => Cert.KernelIdeal.Hand.frame m ρ, frame_r, fun m ρ _ => frame_r m ρ trivial, trivial, algebraic⟩

end Cert.Proof

end
